-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prefill [hPre_prefill : Cert.Pre_prefill.Facts] (m : (ℓ : Loc Cert.KernelIdeal.nD Cert.KernelIdeal.τ Cert.KernelIdeal.sig) → Buf (Elt Ideal) ℓ) : Prop :=
  ∀ c : Dev Cert.KernelIdeal.nD,
    (Cert.Pre_prefill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefill [hPre_prefill : Cert.Pre_prefill.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefill.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_prefill [hKernelIdeal : Cert.KernelIdeal.Facts] [hPre_prefill : Cert.Pre_prefill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prefill m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_prefill [hReferenceIdeal : Cert.ReferenceIdeal.Facts] [hPre_prefill : Cert.Pre_prefill.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefill m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "qscale" .f32 0x3E0293EE#32 (((Real.log 2)⁻¹ * (Real.sqrt 128)⁻¹ : ℝ) : EReal)
  ∧ IdealRules.named_const.Statement Cert.KernelIdeal.κ "large" .f32 0x7F7FFFFF#32 ⊤

def algebraic_KernelIdeal_ReferenceIdeal_pre_prefill [hKernelIdeal : Cert.KernelIdeal.Facts] [hReferenceIdeal : Cert.ReferenceIdeal.Facts] [hPre_prefill : Cert.Pre_prefill.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prefill m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_prefill : Cert.Pre_prefill.Facts),
    quiescent_Kernel (hKernel := hKernel)
    ∧ quiescent_KernelIdeal (hKernelIdeal := hKernelIdeal)
    ∧ quiescent_KernelIdeal_pre_prefill (hKernelIdeal := hKernelIdeal) (hPre_prefill := hPre_prefill)
    ∧ quiescent_ReferenceIdeal (hReferenceIdeal := hReferenceIdeal)
    ∧ quiescent_ReferenceIdeal_pre_prefill (hReferenceIdeal := hReferenceIdeal) (hPre_prefill := hPre_prefill)
    ∧ preserves_Kernel_KernelIdeal
    ∧ algebraic_KernelIdeal_ReferenceIdeal_pre_prefill (hKernelIdeal := hKernelIdeal) (hReferenceIdeal := hReferenceIdeal) (hPre_prefill := hPre_prefill)
-- ==== Pre_prefill.lean ====
abbrev S1x2048x4096 : Shape := ⟨3, ![1, 2048, 4096]⟩
abbrev S1x2048 : Shape := ⟨2, ![1, 2048]⟩
abbrev S4096x4096 : Shape := ⟨2, ![4096, 4096]⟩
abbrev S1024x4096 : Shape := ⟨2, ![1024, 4096]⟩
abbrev S2048 : Shape := ⟨1, ![2048]⟩
abbrev S_ : Shape := ⟨0, ![]⟩

class Facts : Prop where
  shapeCasts_S1x2048_S2048 : S1x2048.ShapeCasts S2048
  reducesTo_S2048_S_d0 : S2048.ReducesTo [0] S_
  h_S_ : 0 < S_.numel
  bcast_S_S1x2048x4096 : S_.BroadcastsInDim S1x2048x4096 (![] : Fin 0 → Fin S1x2048x4096.rank)
  reducesTo_S1x2048x4096_S_d0_1_2 : S1x2048x4096.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) (main_c_4 : IVec S_ 1) : IVec S_ 1 :=
  let main_v17 : IVec S_ 1 := (fun x v => Host.reduce IntOp.andi x v reducesTo_S1024x4096_S_d0_1 h_S_) main_v16 main_c_4
  let main_v18 : IVec S_ 1 := andi main_v13 main_v17
  main_v18

def fn {F : FTy → Type} [FloatOps F] (main_arg0 : FVec F S1x2048x4096 .f32) (main_arg1 : IVec S1x2048 32) (main_arg2 : FVec F S4096x4096 .f32) (main_arg3 : FVec F S1024x4096 .f32) (main_arg4 : FVec F S1024x4096 .f32) (main_arg5 : FVec F S4096x4096 .f32) : IVec S_ 1 :=
  let main_v0 : IVec S2048 32 := shapeCast S2048 main_arg1 shapeCasts_S1x2048_S2048
  let main_v1 : IVec S2048 32 := iotaInDim S2048 32 0
  let main_v2 : IVec S2048 1 := cmpi .eq main_v0 main_v1
  let main_c : IVec S_ 1 := constantI S_ 1 1#1
  let main_v3 : IVec S_ 1 := (fun x v => Host.reduce IntOp.andi x v reducesTo_S2048_S_d0 h_S_) main_v2 main_c
  let main_v4 : FVec F S1x2048x4096 .f32 := Host.absf main_arg0
  let main_cst : FVec F S_ .f32 := constant S_ .f32 0x7F800000#32
  let main_v5 : FVec F S1x2048x4096 .f32 := broadcastInDim S1x2048x4096 ![] bcast_S_S1x2048x4096 main_cst
  let main_v6 : IVec S1x2048x4096 1 := cmpf .olt main_v4 main_v5
  let main_c_0 : IVec S_ 1 := constantI S_ 1 1#1
  let main_v7 : IVec S_ 1 := (fun x v => Host.reduce IntOp.andi x v reducesTo_S1x2048x4096_S_d0_1_2 h_S_) main_v6 main_c_0
  let main_v8 : IVec S_ 1 := andi main_v3 main_v7
  let main_v9 : FVec F S4096x4096 .f32 := Host.absf main_arg2
  let main_cst_1 : FVec F S_ .f32 := constant S_ .f32 0x7F800000#32
  let main_v10 : FVec F S4096x4096 .f32 := broadcastInDim S4096x4096 ![] bcast_S_S4096x4096 main_cst_1
  let main_v11 : IVec S4096x4096 1 := cmpf .olt main_v9 main_v10
  let main_c_2 : IVec S_ 1 := constantI S_ 1 1#1
  let main_v12 : IVec S_ 1 := (fun x v => Host.reduce IntOp.andi x v reducesTo_S4096x4096_S_d0_1 h_S_) main_v11 main_c_2
  let main_v13 : IVec S_ 1 := andi main_v8 main_v12
  let main_v14 : FVec F S1024x4096 .f32 := Host.absf main_arg3
  let main_cst_3 : FVec F S_ .f32 := constant S_ .f32 0x7F800000#32
  let main_v15 : FVec F S1024x4096 .f32 := broadcastInDim S1024x4096 ![] bcast_S_S1024x4096 main_cst_3
  let main_v16 : IVec S1024x4096 1 := cmpf .olt main_v14 main_v15
  let main_c_4 : IVec S_ 1 := constantI S_ 1 1#1
  fn_part1 (F := F) main_v13 main_v16 main_c_4
-- ==== Kernel.lean ====
abbrev S1x2048x4096 : Shape := ⟨3, ![1, 2048, 4096]⟩
abbrev S1x2048 : Shape := ⟨2, ![1, 2048]⟩
abbrev S4096x4096 : Shape := ⟨2, ![4096, 4096]⟩
abbrev S1024x4096 : Shape := ⟨2, ![1024, 4096]⟩
abbrev S1x128 : Shape := ⟨2, ![1, 128]⟩
abbrev S128x128 : Shape := ⟨2, ![128, 128]⟩
abbrev S2048x4096 : Shape := ⟨2, ![2048, 4096]⟩
abbrev S2048x128 : Shape := ⟨2, ![2048, 128]⟩
abbrev S512x4096 : Shape := ⟨2, ![512, 4096]⟩
abbrev S512x128 : Shape := ⟨2, ![512, 128]⟩
abbrev S512x1 : Shape := ⟨2, ![512, 1]⟩
abbrev S8x4x2048x128 : Shape := ⟨4, ![8, 4, 2048, 128]⟩
abbrev S2048x1024 : Shape := ⟨2, ![2048, 1024]⟩
abbrev S1024x1024 : Shape := ⟨2, ![1024, 1024]⟩
abbrev S2x4x2048x128 : Shape := ⟨4, ![2, 4, 2048, 128]⟩
abbrev S1x1x2048x128 : Shape := ⟨4, ![1, 1, 2048, 128]⟩
abbrev S2048x512 : Shape := ⟨2, ![2048, 512]⟩
abbrev S1024x512 : Shape := ⟨2, ![1024, 512]⟩
abbrev S512x1024 : Shape := ⟨2, ![512, 1024]⟩
abbrev S1x4x512x128 : Shape := ⟨4, ![1, 4, 512, 128]⟩
abbrev S512x512 : Shape := ⟨2, ![512, 512]⟩
abbrev S2048x1 : Shape := ⟨2, ![2048, 1]⟩
abbrev S2048 : Shape := ⟨1, ![2048]⟩
abbrev S2048x8x128 : Shape := ⟨3, ![2048, 8, 128]⟩

abbrev nBuf : Space → Nat
  | .hbm => 23
  | .vmem => 55
  | .smem => 0
  | _ => 0

abbrev bufTy : (tb : Table) → Fin (tcTables nBuf tb) → BufTy
  | .hbm, ⟨0, _⟩ => ⟨S1x2048x4096, .f32⟩
  | .hbm, ⟨1, _⟩ => ⟨S1x2048, .i32⟩
  | .hbm, ⟨2, _⟩ => ⟨S4096x4096, .f32⟩
  | .hbm, ⟨3, _⟩ => ⟨S1024x4096, .f32⟩
  | .hbm, ⟨4, _⟩ => ⟨S1024x4096, .f32⟩
  | .hbm, ⟨5, _⟩ => ⟨S4096x4096, .f32⟩
  | .hbm, ⟨6, _⟩ => ⟨S1x128, .f32⟩
  | .hbm, ⟨7, _⟩ => ⟨S1x128, .f32⟩
  | .hbm, ⟨8, _⟩ => ⟨S128x128, .f32⟩
  | .hbm, ⟨9, _⟩ => ⟨S2048x4096, .f32⟩
  | .hbm, ⟨10, _⟩ => ⟨S2048x4096, .bf16⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S8x4x2048x128, .bf16⟩
  | .hbm, ⟨16, _⟩ => ⟨S2048x1024, .bf16⟩
  | .hbm, ⟨17, _⟩ => ⟨S2048x1024, .bf16⟩
  | .hbm, ⟨18, _⟩ => ⟨S2048x1024, .f32⟩
  | .hbm, ⟨19, _⟩ => ⟨S2048x4096, .bf16⟩
  | .hbm, ⟨20, _⟩ => ⟨S2048x4096, .f32⟩
  | .hbm, ⟨21, _⟩ => ⟨S1x2048x4096, .f32⟩
  | .hbm, ⟨22, _⟩ => ⟨S2048x8x128, .f32⟩
  | .local _ .vmem, ⟨0, _⟩ => ⟨S512x4096, .f32⟩
  | .local _ .vmem, ⟨1, _⟩ => ⟨S512x4096, .f32⟩
  | .local _ .vmem, ⟨2, _⟩ => ⟨S1x128, .f32⟩
  | .local _ .vmem, ⟨3, _⟩ => ⟨S1x128, .f32⟩
  | .local _ .vmem, ⟨4, _⟩ => ⟨S512x4096, .bf16⟩
  | .local _ .vmem, ⟨5, _⟩ => ⟨S512x4096, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S2048x1024, .bf16⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S2048x128, .f32⟩
  | .local _ .vmem, ⟨19, _⟩ => ⟨S2048x128, .f32⟩
  | .local _ .vmem, ⟨20, _⟩ => ⟨S2x4x2048x128, .bf16⟩
  | .local _ .vmem, ⟨21, _⟩ => ⟨S2x4x2048x128, .bf16⟩
  | .local _ .vmem, ⟨22, _⟩ => ⟨S2048x1024, .f32⟩
  | .local _ .vmem, ⟨23, _⟩ => ⟨S2048x512, .bf16⟩
  | .local _ .vmem, ⟨24, _⟩ => ⟨S2048x512, .bf16⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S2048x128, .f32⟩
  | .local _ .vmem, ⟨30, _⟩ => ⟨S2048x128, .f32⟩
  | .local _ .vmem, ⟨31, _⟩ => ⟨S2048x1024, .bf16⟩
  | .local _ .vmem, ⟨32, _⟩ => ⟨S2048x1024, .bf16⟩
  | .local _ .vmem, ⟨33, _⟩ => ⟨S2048x1024, .f32⟩
  | .local _ .vmem, ⟨34, _⟩ => ⟨S2048x1024, .f32⟩
  | .local _ .vmem, ⟨35, _⟩ => ⟨S512x1024, .bf16⟩
  | .local _ .vmem, ⟨36, _⟩ => ⟨S512x1024, .bf16⟩
  | .local _ .vmem, ⟨37, _⟩ => ⟨S128x128, .f32⟩
  | .local _ .vmem, ⟨38, _⟩ => ⟨S512x1024, .f32⟩
  | .local _ .vmem, ⟨39, _⟩ => ⟨S512x1024, .f32⟩
  | .local _ .vmem, ⟨40, _⟩ => ⟨S1x4x512x128, .bf16⟩
  | .local _ .vmem, ⟨41, _⟩ => ⟨S1x4x512x128, .bf16⟩
  | .local _ .vmem, ⟨42, _⟩ => ⟨S2048x128, .bf16⟩
  | .local _ .vmem, ⟨43, _⟩ => ⟨S2048x128, .bf16⟩
  | .local _ .vmem, ⟨44, _⟩ => ⟨S2048x128, .bf16⟩
  | .local _ .vmem, ⟨45, _⟩ => ⟨S2048x128, .bf16⟩
  | .local _ .vmem, ⟨46, _⟩ => ⟨S512x512, .bf16⟩
  | .local _ .vmem, ⟨47, _⟩ => ⟨S512x512, .bf16⟩
  | .local _ .vmem, ⟨48, _⟩ => ⟨S2048x1024, .bf16⟩
  | .local _ .vmem, ⟨49, _⟩ => ⟨S2048x1024, .bf16⟩
  | .local _ .vmem, ⟨50, _⟩ => ⟨S1024x1024, .f32⟩
  | .local _ .vmem, ⟨51, _⟩ => ⟨S1024x1024, .f32⟩
  | .local _ .vmem, ⟨52, _⟩ => ⟨S2048x1024, .f32⟩
  | .local _ .vmem, ⟨53, _⟩ => ⟨S2048x1024, .f32⟩
  | .local _ .vmem, ⟨54, _⟩ => ⟨S2048x1024, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_scratch0 : Ref sig .tc := ⟨.vmem, 33, rfl⟩
abbrev cc2_scratch1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc5_scratch0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem2_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 4], ![false, false]⟩

def k1_cond3 (i : grid1.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_3 : BitVec 32 := 0#32
  let v8 : BitVec 1 := Scalar.cmpi .ne v7 c0_i32_3
  v8

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2x4x2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![8], ![false]⟩

def k2_cond3 (i : grid2.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 4], ![false, false]⟩

@[reducible] def k4_t1_loop (i : grid4.Coords) : Scf.Loop 32 :=
  let c0_i32 : BitVec 32 := 0#32
  let arg1 : BitVec 32 := BitVec.ofNat 32 (i 1).val
  let c1_i32 : BitVec 32 := 1#32
  let v6 : BitVec 32 := Scalar.muli arg1 c1_i32
  let v7 : BitVec 32 := Scalar.subi v6 c0_i32
  let c1_i32_5 : BitVec 32 := 1#32
  let v9 : BitVec 32 := Scalar.divsi v7 c1_i32_5
  let v10 : BitVec 32 := Scalar.muli v9 c1_i32_5
  let v11 : BitVec 32 := Scalar.addi c0_i32 v10
  let c1_i32_6 : BitVec 32 := 1#32
  ⟨c0_i32, v11, c1_i32_6⟩
def k4_off1 (i : grid4.Coords) (k4_t1 : Fin (k4_t1_loop i).trips) : Fin 2 → Nat :=
  let c0_i32 : BitVec 32 := 0#32
  let c1_i32_6 : BitVec 32 := 1#32
  let arg6 : BitVec 32 := Scf.iv c0_i32 c1_i32_6 k4_t1
  let c512_i32_22 : BitVec 32 := 512#32
  let v63 : BitVec 32 := Scalar.muli arg6 c512_i32_22
  let v64 : Index := Scalar.indexCast v63
  let c0_23 : Index := 0#32
  ![v64.toNat, 0]
@[reducible] def k4_t2_loop (i : grid4.Coords) : Scf.Loop 32 :=
  let c0_i32 : BitVec 32 := 0#32
  let arg1 : BitVec 32 := BitVec.ofNat 32 (i 1).val
  let c1_i32 : BitVec 32 := 1#32
  let v6 : BitVec 32 := Scalar.muli arg1 c1_i32
  let v7 : BitVec 32 := Scalar.subi v6 c0_i32
  let c1_i32_5 : BitVec 32 := 1#32
  let v9 : BitVec 32 := Scalar.divsi v7 c1_i32_5
  let v10 : BitVec 32 := Scalar.muli v9 c1_i32_5
  let v11 : BitVec 32 := Scalar.addi c0_i32 v10
  let v8 : BitVec 32 := Scalar.addi c0_i32 v7
  let c1_i32_7 : BitVec 32 := 1#32
  ⟨v11, v8, c1_i32_7⟩
def k4_off2 (i : grid4.Coords) (k4_t2 : Fin (k4_t2_loop i).trips) : Fin 2 → Nat :=
  let c0_i32 : BitVec 32 := 0#32
  let arg1 : BitVec 32 := BitVec.ofNat 32 (i 1).val
  let c1_i32 : BitVec 32 := 1#32
  let v6 : BitVec 32 := Scalar.muli arg1 c1_i32
  let v7 : BitVec 32 := Scalar.subi v6 c0_i32
  let c1_i32_5 : BitVec 32 := 1#32
  let v9 : BitVec 32 := Scalar.divsi v7 c1_i32_5
  let v10 : BitVec 32 := Scalar.muli v9 c1_i32_5
  let v11 : BitVec 32 := Scalar.addi c0_i32 v10
  let c1_i32_7 : BitVec 32 := 1#32
  let arg6 : BitVec 32 := Scf.iv v11 c1_i32_7 k4_t2
  let c512_i32_22 : BitVec 32 := 512#32
  let v63 : BitVec 32 := Scalar.muli arg6 c512_i32_22
  let v64 : Index := Scalar.indexCast v63
  let c0_23 : Index := 0#32
  ![v64.toNat, 0]
def k4_off3 (i : grid4.Coords) : Fin 2 → Nat :=
  let arg1 : BitVec 32 := BitVec.ofNat 32 (i 1).val
  let c1_i32 : BitVec 32 := 1#32
  let v6 : BitVec 32 := Scalar.muli arg1 c1_i32
  let c512_i32 : BitVec 32 := 512#32
  let v14 : BitVec 32 := Scalar.muli v6 c512_i32
  let v15 : Index := Scalar.indexCast v14
  let c0_8 : Index := 0#32
  ![v15.toNat, 0]
def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1x4x512x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![4, 4], ![false, false]⟩

def k5_cond3 (i : grid5.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_3 : BitVec 32 := 0#32
  let v8 : BitVec 1 := Scalar.cmpi .ne v7 c0_i32_3
  v8

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]
-- ==== KernelIdeal.lean ====
variable {F : FTy → Type} [FloatOps F] [Named F]
def κ : String → Option EReal := fun
  | "large" => some ⊤
  | "qscale" => some (((Real.log 2)⁻¹ * (Real.sqrt 128)⁻¹ : ℝ) : EReal)
  | _ => none
-- ==== ReferenceIdeal.lean ====
abbrev S1x2048x4096 : Shape := ⟨3, ![1, 2048, 4096]⟩
abbrev S1x2048 : Shape := ⟨2, ![1, 2048]⟩
abbrev S4096x4096 : Shape := ⟨2, ![4096, 4096]⟩
abbrev S1024x4096 : Shape := ⟨2, ![1024, 4096]⟩
abbrev S64 : Shape := ⟨1, ![64]⟩
abbrev S128x128 : Shape := ⟨2, ![128, 128]⟩
abbrev S2048x4096 : Shape := ⟨2, ![2048, 4096]⟩
abbrev S2048x32x128 : Shape := ⟨3, ![2048, 32, 128]⟩
abbrev S4096x1024 : Shape := ⟨2, ![4096, 1024]⟩
abbrev S2048x1024 : Shape := ⟨2, ![2048, 1024]⟩
abbrev S2048x8x128 : Shape := ⟨3, ![2048, 8, 128]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2048x1x128 : Shape := ⟨3, ![2048, 1, 128]⟩
abbrev S2048x32x64 : Shape := ⟨3, ![2048, 32, 64]⟩
abbrev S2048x8x64 : Shape := ⟨3, ![2048, 8, 64]⟩
abbrev S32x2048x128 : Shape := ⟨3, ![32, 2048, 128]⟩
abbrev S2048x8x4x128 : Shape := ⟨4, ![2048, 8, 4, 128]⟩
abbrev S32x2048x2048 : Shape := ⟨3, ![32, 2048, 2048]⟩
abbrev S_ : Shape := ⟨0, ![]⟩
abbrev S2048x2048 : Shape := ⟨2, ![2048, 2048]⟩
abbrev S1x2048x2048 : Shape := ⟨3, ![1, 2048, 2048]⟩
abbrev S32x2048 : Shape := ⟨2, ![32, 2048]⟩
abbrev S32x2048x1 : Shape := ⟨3, ![32, 2048, 1]⟩

abbrev nBuf : Space → Nat
  | .hbm => 109
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S1x2048, .i32⟩
  | .hbm, ⟨2, _⟩ => ⟨S4096x4096, .f32⟩
  | .hbm, ⟨3, _⟩ => ⟨S1024x4096, .f32⟩
  | .hbm, ⟨4, _⟩ => ⟨S1024x4096, .f32⟩
  | .hbm, ⟨5, _⟩ => ⟨S4096x4096, .f32⟩
  | .hbm, ⟨6, _⟩ => ⟨S64, .f32⟩
  | .hbm, ⟨7, _⟩ => ⟨S64, .f32⟩
  | .hbm, ⟨8, _⟩ => ⟨S128x128, .f32⟩
  | .hbm, ⟨9, _⟩ => ⟨S2048x4096, .f32⟩
  | .hbm, ⟨10, _⟩ => ⟨S4096x4096, .f32⟩
  | .hbm, ⟨11, _⟩ => ⟨S2048x4096, .f32⟩
  | .hbm, ⟨12, _⟩ => ⟨S2048x32x128, .f32⟩
  | .hbm, ⟨13, _⟩ => ⟨S4096x1024, .f32⟩
  | .hbm, ⟨14, _⟩ => ⟨S2048x1024, .f32⟩
  | .hbm, ⟨15, _⟩ => ⟨S2048x8x128, .f32⟩
  | .hbm, ⟨16, _⟩ => ⟨S4096x1024, .f32⟩
  | .hbm, ⟨17, _⟩ => ⟨S2048x1024, .f32⟩
  | .hbm, ⟨18, _⟩ => ⟨S2048x8x128, .f32⟩
  | .hbm, ⟨19, _⟩ => ⟨S2048, .i32⟩
  | .hbm, ⟨20, _⟩ => ⟨S2048, .f32⟩
  | .hbm, ⟨21, _⟩ => ⟨S2048x1, .f32⟩
  | .hbm, ⟨22, _⟩ => ⟨S1x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x128, .f32⟩
  | .hbm, ⟨27, _⟩ => ⟨S2048x128, .f32⟩
  | .hbm, ⟨28, _⟩ => ⟨S2048x1x128, .f32⟩
  | .hbm, ⟨29, _⟩ => ⟨S2048x128, .f32⟩
  | .hbm, ⟨30, _⟩ => ⟨S2048x1x128, .f32⟩
  | .hbm, ⟨31, _⟩ => ⟨S2048x32x128, .f32⟩
  | .hbm, ⟨32, _⟩ => ⟨S2048x32x128, .f32⟩
  | .hbm, ⟨33, _⟩ => ⟨S2048x32x64, .f32⟩
  | .hbm, ⟨34, _⟩ => ⟨S2048x32x64, .f32⟩
  | .hbm, ⟨35, _⟩ => ⟨S2048x32x64, .f32⟩
  | .hbm, ⟨36, _⟩ => ⟨S2048x32x128, .f32⟩
  | .hbm, ⟨37, _⟩ => ⟨S2048x32x128, .f32⟩
  | .hbm, ⟨38, _⟩ => ⟨S2048x32x128, .f32⟩
  | .hbm, ⟨39, _⟩ => ⟨S2048x32x128, .f32⟩
  | .hbm, ⟨40, _⟩ => ⟨S2048, .f32⟩
  | .hbm, ⟨41, _⟩ => ⟨S2048x1, .f32⟩
  | .hbm, ⟨42, _⟩ => ⟨S1x64, .f32⟩
  | .hbm, ⟨43, _⟩ => ⟨S2048x64, .f32⟩
  | .hbm, ⟨44, _⟩ => ⟨S2048x64, .f32⟩
  | .hbm, ⟨45, _⟩ => ⟨S2048x64, .f32⟩
  | .hbm, ⟨46, _⟩ => ⟨S2048x128, .f32⟩
  | .hbm, ⟨47, _⟩ => ⟨S2048x128, .f32⟩
  | .hbm, ⟨48, _⟩ => ⟨S2048x1x128, .f32⟩
  | .hbm, ⟨49, _⟩ => ⟨S2048x128, .f32⟩
  | .hbm, ⟨50, _⟩ => ⟨S2048x1x128, .f32⟩
  | .hbm, ⟨51, _⟩ => ⟨S2048x8x128, .f32⟩
  | .hbm, ⟨52, _⟩ => ⟨S2048x8x128, .f32⟩
  | .hbm, ⟨53, _⟩ => ⟨S2048x8x64, .f32⟩
  | .hbm, ⟨54, _⟩ => ⟨S2048x8x64, .f32⟩
  | .hbm, ⟨55, _⟩ => ⟨S2048x8x64, .f32⟩
  | .hbm, ⟨56, _⟩ => ⟨S2048x8x128, .f32⟩
  | .hbm, ⟨57, _⟩ => ⟨S2048x8x128, .f32⟩
  | .hbm, ⟨58, _⟩ => ⟨S2048x8x128, .f32⟩
  | .hbm, ⟨59, _⟩ => ⟨S2048x8x128, .f32⟩
  | .hbm, ⟨60, _⟩ => ⟨S2048x8x128, .f32⟩
  | .hbm, ⟨61, _⟩ => ⟨S32x2048x128, .f32⟩
  | .hbm, ⟨62, _⟩ => ⟨S2048x8x4x128, .f32⟩
  | .hbm, ⟨63, _⟩ => ⟨S2048x32x128, .f32⟩
  | .hbm, ⟨64, _⟩ => ⟨S32x2048x128, .f32⟩
  | .hbm, ⟨65, _⟩ => ⟨S2048x8x4x128, .f32⟩
  | .hbm, ⟨66, _⟩ => ⟨S2048x32x128, .f32⟩
  | .hbm, ⟨67, _⟩ => ⟨S32x2048x128, .f32⟩
  | .hbm, ⟨68, _⟩ => ⟨S32x2048x2048, .f32⟩
  | .hbm, ⟨69, _⟩ => ⟨S_, .f32⟩
  | .hbm, ⟨70, _⟩ => ⟨S_, .f32⟩
  | .hbm, ⟨71, _⟩ => ⟨S32x2048x2048, .f32⟩
  | .hbm, ⟨72, _⟩ => ⟨S32x2048x2048, .f32⟩
  | .hbm, ⟨73, _⟩ => ⟨S_, .i1⟩
  | .hbm, ⟨74, _⟩ => ⟨S2048x2048, .i1⟩
  | .hbm, ⟨75, _⟩ => ⟨S2048x2048, .i32⟩
  | .hbm, ⟨76, _⟩ => ⟨S_, .i32⟩
  | .hbm, ⟨77, _⟩ => ⟨S2048x2048, .i32⟩
  | .hbm, ⟨78, _⟩ => ⟨S2048x2048, .i32⟩
  | .hbm, ⟨79, _⟩ => ⟨S2048x2048, .i32⟩
  | .hbm, ⟨80, _⟩ => ⟨S2048x2048, .i1⟩
  | .hbm, ⟨81, _⟩ => ⟨S_, .i1⟩
  | .hbm, ⟨82, _⟩ => ⟨S2048x2048, .i1⟩
  | .hbm, ⟨83, _⟩ => ⟨S2048x2048, .i1⟩
  | .hbm, ⟨84, _⟩ => ⟨S1x2048x2048, .i1⟩
  | .hbm, ⟨85, _⟩ => ⟨S_, .f32⟩
  | .hbm, ⟨86, _⟩ => ⟨S_, .f32⟩
  | .hbm, ⟨87, _⟩ => ⟨S32x2048x2048, .i1⟩
  | .hbm, ⟨88, _⟩ => ⟨S32x2048x2048, .f32⟩
  | .hbm, ⟨89, _⟩ => ⟨S32x2048x2048, .f32⟩
  | .hbm, ⟨90, _⟩ => ⟨S_, .f32⟩
  | .hbm, ⟨91, _⟩ => ⟨S32x2048, .f32⟩
  | .hbm, ⟨92, _⟩ => ⟨S_, .f32⟩
  | .hbm, ⟨93, _⟩ => ⟨S32x2048, .f32⟩
  | .hbm, ⟨94, _⟩ => ⟨S32x2048, .f32⟩
  | .hbm, ⟨95, _⟩ => ⟨S32x2048x1, .f32⟩
  | .hbm, ⟨96, _⟩ => ⟨S32x2048x2048, .f32⟩
  | .hbm, ⟨97, _⟩ => ⟨S32x2048x2048, .f32⟩
  | .hbm, ⟨98, _⟩ => ⟨S32x2048x2048, .f32⟩
  | .hbm, ⟨99, _⟩ => ⟨S_, .f32⟩
  | .hbm, ⟨100, _⟩ => ⟨S32x2048, .f32⟩
  | .hbm, ⟨101, _⟩ => ⟨S32x2048x1, .f32⟩
  | .hbm, ⟨102, _⟩ => ⟨S32x2048x2048, .f32⟩
  | .hbm, ⟨103, _⟩ => ⟨S32x2048x2048, .f32⟩
  | .hbm, ⟨104, _⟩ => ⟨S32x2048x128, .f32⟩
  | .hbm, ⟨105, _⟩ => ⟨S2048x32x128, .f32⟩
  | .hbm, ⟨106, _⟩ => ⟨S1x2048x4096, .f32⟩
  | .hbm, ⟨107, _⟩ => ⟨S4096x4096, .f32⟩
  | .hbm, ⟨108, _⟩ => ⟨S1x2048x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_2 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c : Ref sig .tc := ⟨.hbm, 73, rfl⟩
abbrev main_v63 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v64 : Ref sig .tc := ⟨.hbm, 83, rfl⟩
abbrev main_v65 : Ref sig .tc := ⟨.hbm, 84, rfl⟩
abbrev main_cst_3 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v66 : Ref sig .tc := ⟨.hbm, 89, rfl⟩
abbrev main_cst_4 : Ref sig .tc := ⟨.hbm, 90, rfl⟩
abbrev main_v67 : Ref sig .tc := ⟨.hbm, 91, rfl⟩
abbrev main_cst_5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_6 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Proof.KernelIdeal.R0.lean ====
/- Region 0, the tables: what each grid point leaves in the five output blocks, and the proof that the body does so from
   any contents of the buffers the region finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.ValueKit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

set_option maxHeartbeats 2000000 in
/-- The body at one point: the inputs stay, each output block is stored whole. -/
theorem run (c : Dev nD) (i : grid0.Coords) (arg1 : Memref sig .tc .vmem S512x4096 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S512x4096 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole)
    (x0 : Vec F S512x4096 .f32) (x1 : Vec F S1x128 .f32) (x2 : Vec F S1x128 .f32) (x3 : Vec F S512x4096 .bf16) (x4 : Vec F S512x128 .f32) (x5 : Vec F S512x128 .f32) (x6 : Vec F S512x128 .f32) (x7 : Vec F S512x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
      ∗ (iprop(owns (c : Thread nD τ) arg1 fullShare x0 ∗ owns (c : Thread nD τ) arg2 fullShare x1 ∗ owns (c : Thread nD τ) arg3 fullShare x2 ∗ owns (c : Thread nD τ) arg4 fullShare (k0_pay1 x0) ∗ owns (c : Thread nD τ) arg5 fullShare (k0_pay3 i x1) ∗ owns (c : Thread nD τ) arg6 fullShare (k0_pay4 i x1 x2) ∗ owns (c : Thread nD τ) arg7 fullShare (k0_pay5 i x1) ∗ owns (c : Thread nD τ) arg8 fullShare (k0_pay6 i x1 x2)) -∗ K ⟨⟩))
    ⊢ wp frame (wpE (defs₀ (F := F)) Variants.none c none) E (cc0__tables_kernel i arg1 harg1 arg2 harg2 arg3 harg3 arg4 harg4 arg5 harg5 arg6 harg6 arg7 harg7 arg8 harg8) K := by
  simp only [cc0__tables_kernel_eq_skeleton]; unfold cc0__tables_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (View.read_writes_eq_canon _ _ _ (View.cover_of_tiledL _ S512x4096.size (by sl_kernel_rfl) ·)).trans ?_
    sl_unfold_words
    rw [View.canon_unit_zero hz]
    simp only [View.readAt_eq_ld, harg1.read_unread, harg2.read_unread, harg3.read_unread, View.ld_unit_zero (S := S512x4096) hz, View.ld_unit_zero (S := S1x128) hz]
  isplitl [H4]
  · iexists _; isplitr; swap; · iexact H4
    ipureintro
    refine (View.read_writes_eq_canon _ _ _ (View.cover_of_tiledL _ S512x128.size (by sl_kernel_rfl) ·)).trans ?_
    sl_unfold_words
    rw [View.canon_unit_zero hz]
    simp only [View.readAt_eq_ld, harg1.read_unread, harg2.read_unread, harg3.read_unread, View.ld_unit_zero (S := S512x4096) hz, View.ld_unit_zero (S := S1x128) hz]
  isplitl [H5]
  · iexists _; isplitr; swap; · iexact H5
    ipureintro
    refine (View.read_writes_eq_canon _ _ _ (View.cover_of_tiledL _ S512x128.size (by sl_kernel_rfl) ·)).trans ?_
    sl_unfold_words
    rw [View.canon_unit_zero hz]
    simp only [View.readAt_eq_ld, harg1.read_unread, harg2.read_unread, harg3.read_unread, View.ld_unit_zero (S := S512x4096) hz, View.ld_unit_zero (S := S1x128) hz]
  isplitl [H6]
  · iexists _; isplitr; swap; · iexact H6
    ipureintro
    refine (View.read_writes_eq_canon _ _ _ (View.cover_of_tiledL _ S512x128.size (by sl_kernel_rfl) ·)).trans ?_
    sl_unfold_words
    rw [View.canon_unit_zero hz]
    simp only [View.readAt_eq_ld, harg1.read_unread, harg2.read_unread, harg3.read_unread, View.ld_unit_zero (S := S512x4096) hz, View.ld_unit_zero (S := S1x128) hz]
  iexists _; isplitr; swap; · iexact H7
  ipureintro
  refine (View.read_writes_eq_canon _ _ _ (View.cover_of_tiledL _ S512x128.size (by sl_kernel_rfl) ·)).trans ?_
  sl_unfold_words
  rw [View.canon_unit_zero hz]
  simp only [View.readAt_eq_ld, harg1.read_unread, harg2.read_unread, harg3.read_unread, View.ld_unit_zero (S := S512x4096) hz, View.ld_unit_zero (S := S1x128) hz]

variable (W : Dev nD → Valuation τ sig (Elt F))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

def dat (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => iblk W c 2 t
    | ⟨3, _⟩ => k0_pay1 (iblk W c 0 t)
    | ⟨4, _⟩ => k0_pay3 (grid0.coords t) (iblk W c 1 t)
    | ⟨5, _⟩ => k0_pay4 (grid0.coords t) (iblk W c 1 t) (iblk W c 2 t)
    | ⟨6, _⟩ => k0_pay5 (grid0.coords t) (iblk W c 1 t)
    | ⟨7, _⟩ => k0_pay6 (grid0.coords t) (iblk W c 1 t) (iblk W c 2 t)
  Φ _ := Pipeline.ΦA spec0 c
  q _ := fullShare
  owed _ := 0

theorem A_eq (c : Dev nD) (w : Fin cfg0.W) : (dat W c).A w = W c (Pipeline.arrRef spec0 w) := by dsimp only [dat]
theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = k0_pay1 (iblk W c 0 t) := by dsimp only [dat]
theorem after_4 (c : Dev nD) (t : Fin cfg0.N) : (dat W c).after 4 t = k0_pay3 (grid0.coords t) (iblk W c 1 t) := by dsimp only [dat]
theorem after_5 (c : Dev nD) (t : Fin cfg0.N) : (dat W c).after 5 t = k0_pay4 (grid0.coords t) (iblk W c 1 t) (iblk W c 2 t) := by dsimp only [dat]
theorem after_6 (c : Dev nD) (t : Fin cfg0.N) : (dat W c).after 6 t = k0_pay5 (grid0.coords t) (iblk W c 1 t) := by dsimp only [dat]
theorem after_7 (c : Dev nD) (t : Fin cfg0.N) : (dat W c).after 7 t = k0_pay6 (grid0.coords t) (iblk W c 1 t) (iblk W c 2 t) := by dsimp only [dat]
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
abbrev ms0 (t : Fin cfg0.N) : Memref sig .tc .vmem S512x4096 .f32 := win0_0.stage (cfg0.slots t 0)
abbrev ms1 (t : Fin cfg0.N) : Memref sig .tc .vmem S1x128 .f32 := win0_1.stage (cfg0.slots t 1)
abbrev ms2 (t : Fin cfg0.N) : Memref sig .tc .vmem S1x128 .f32 := win0_2.stage (cfg0.slots t 2)
abbrev ms3 (t : Fin cfg0.N) : Memref sig .tc .vmem S512x4096 .bf16 := win0_3.stage (cfg0.slots t 3)
abbrev ms4 (t : Fin cfg0.N) : Memref sig .tc .vmem S512x128 .f32 := win0_4.stage (cfg0.slots t 4)
abbrev ms5 (t : Fin cfg0.N) : Memref sig .tc .vmem S512x128 .f32 := win0_5.stage (cfg0.slots t 5)
abbrev ms6 (t : Fin cfg0.N) : Memref sig .tc .vmem S512x128 .f32 := win0_6.stage (cfg0.slots t 6)
abbrev ms7 (t : Fin cfg0.N) : Memref sig .tc .vmem S512x128 .f32 := win0_7.stage (cfg0.slots t 7)

def bodyPre (c : Dev nD) (t : Fin cfg0.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d)))

def bodyPost (c : Dev nD) (t : Fin cfg0.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t ∗ (dat W c).leavesExact 4 t ∗ (dat W c).leavesExact 5 t ∗ (dat W c).leavesExact 6 t ∗ (dat W c).leavesExact 7 t)

theorem leaves (c : Dev nD) (t : Fin cfg0.N) (w : Fin cfg0.W) :
    (dat W c).leavesExact w t = owns (c : Thread nD τ) ((cfg0.win w).stage (cfg0.slots t w)) fullShare ((dat W c).after w t) := by
  unfold Dat.leavesExact; rw [show cfg0.idle w (grid0.coords t) = false from rfl]

set_option maxHeartbeats 4800000 in
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2]
  rw [show (dat W c).owesAt () t.succ = (dat W c).owesAt () t.castSucc from rfl, show (dat W c).Φ t.succ = (dat W c).Φ t.castSucc from rfl]
  rw [show (dat W c).leavesExact 0 t = owns (c : Thread nD τ) (ms0 t) fullShare ((dat W c).after 0 t) from leaves W c t 0, after_0]
  rw [show (dat W c).leavesExact 1 t = owns (c : Thread nD τ) (ms1 t) fullShare ((dat W c).after 1 t) from leaves W c t 1, after_1]
  rw [show (dat W c).leavesExact 2 t = owns (c : Thread nD τ) (ms2 t) fullShare ((dat W c).after 2 t) from leaves W c t 2, after_2]
  rw [show (dat W c).leavesExact 3 t = owns (c : Thread nD τ) (ms3 t) fullShare ((dat W c).after 3 t) from leaves W c t 3, after_3]
  rw [show (dat W c).leavesExact 4 t = owns (c : Thread nD τ) (ms4 t) fullShare ((dat W c).after 4 t) from leaves W c t 4, after_4]
  rw [show (dat W c).leavesExact 5 t = owns (c : Thread nD τ) (ms5 t) fullShare ((dat W c).after 5 t) from leaves W c t 5, after_5]
  rw [show (dat W c).leavesExact 6 t = owns (c : Thread nD τ) (ms6 t) fullShare ((dat W c).after 6 t) from leaves W c t 6, after_6]
  rw [show (dat W c).leavesExact 7 t = owns (c : Thread nD τ) (ms7 t) fullShare ((dat W c).after 7 t) from leaves W c t 7, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ (iblk W c 0 t) (iblk W c 1 t) (iblk W c 2 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row for this region is its body at the point. -/
theorem row (t : Fin cfg0.N) : (defs₀ (F := F)) .tc cfg0.body (cfg0.bodyArgs t (cfg0.slots t)) = bodyAt0 t := by
  unfold defs₀; rw [Defs.onTc_tc]

/-- The body at every point, as the pipeline asks for it. -/
theorem body (c : Dev nD) : Pipeline.BodyObligation (dat W c) (defs₀ (F := F)) Variants.none () Set.univ :=
  fun t => by rw [bigSep_W0, bigSep_W0, row]; exact triple_restated (sound_body W c t) rfl .rfl fun _ => .rfl

theorem enter (c : Dev nD) : iprop(Pipeline.scopedRest spec0 c ∗ ∃ r, prngReg c r) ⊢ (dat W c).Φ 0 := BI.Entails.refl _

theorem leave (c : Dev nD) : (dat W c).Φ (Fin.last cfg0.N) ⊢ iprop(Pipeline.scopedRest spec0 c ∗ ∃ r, prngReg c r) := BI.Entails.refl _

end Cert.KernelIdeal.R0

end
-- ==== Proof.KernelIdeal.R1.lean ====
/- Region 1, the projection to rotated queries: what each grid point leaves in the accumulator and in the output block, and the
   proof that the body does so from any contents of the buffers the region finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.ValueKit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-- The point is the first of its column block. -/
abbrev first (i : grid1.Coords) : Prop := (Scalar.cmpi .ne (Scalar.extui (Scalar.cmpi .eq (BitVec.ofNat 32 (i 1).val) 0#32)) 0#32) = 1#1
/-- The point is a later one. -/
abbrev later (i : grid1.Coords) : Prop := (Scalar.cmpi .ne (Scalar.extui (Scalar.cmpi .sgt (BitVec.ofNat 32 (i 1).val) 0#32)) 0#32) = 1#1
/-- The point is the last one. -/
abbrev last (i : grid1.Coords) : Prop := k1_cond3 i = 1#1

theorem first_iff : ∀ t : Fin cfg1.N, first (grid1.coords t) ↔ t.val % 4 = 0 := (by decide +kernel : ∀ t : Fin grid1.N, first (grid1.coords t) ↔ t.val % 4 = 0)
theorem later_iff : ∀ t : Fin cfg1.N, later (grid1.coords t) ↔ ¬ t.val % 4 = 0 := (by decide +kernel : ∀ t : Fin grid1.N, later (grid1.coords t) ↔ ¬ t.val % 4 = 0)
theorem last_iff : ∀ t : Fin cfg1.N, last (grid1.coords t) ↔ t.val % 4 = 3 := (by decide +kernel : ∀ t : Fin grid1.N, last (grid1.coords t) ↔ t.val % 4 = 3)
theorem idle_out : ∀ t : Fin cfg1.N, ¬ t.val % 4 = 3 → cfg1.idle 4 (grid1.coords t) = true := (by decide +kernel : ∀ t : Fin grid1.N, ¬ t.val % 4 = 3 → cfg1.idle 4 (grid1.coords t) = true)
theorem keep_out : ∀ t : Fin cfg1.N, ¬ t.val % 4 = 3 → (cfg1.win 4).flush t = false := (by decide +kernel : ∀ t : Fin grid1.N, ¬ t.val % 4 = 3 → (cfg1.win 4).flush t = false)
theorem live_out : ∀ t : Fin cfg1.N, t.val % 4 = 3 → cfg1.idle 4 (grid1.coords t) = false := (by decide +kernel : ∀ t : Fin grid1.N, t.val % 4 = 3 → cfg1.idle 4 (grid1.coords t) = false)

/-- The eight heads a last point stores, from the accumulator and the two rotation tables. -/
def pieces (a : Vec F S2048x1024 .f32) (x2 x3 : Vec F S2048x128 .f32) : List (View.Piece (Elt F) S2x4x2048x128 .bf16) :=
  [⟨Rect.unit (s := S2x4x2048x128) ![1, 3, 0, 0] S1x1x2048x128.size inb_S2x4x2048x128_S1x1x2048x128_1_3_0_0, k1_pay3 (k1_pay5 x3) (k1_pay17 a (k1_pay4 x2)) (k1_pay18 a)⟩,
   ⟨Rect.unit (s := S2x4x2048x128) ![1, 2, 0, 0] S1x1x2048x128.size inb_S2x4x2048x128_S1x1x2048x128_1_2_0_0, k1_pay15 a (k1_pay4 x2) (k1_pay5 x3)⟩,
   ⟨Rect.unit (s := S2x4x2048x128) ![1, 1, 0, 0] S1x1x2048x128.size inb_S2x4x2048x128_S1x1x2048x128_1_1_0_0, k1_pay14 a (k1_pay4 x2) (k1_pay5 x3)⟩,
   ⟨Rect.unit (s := S2x4x2048x128) ![1, 0, 0, 0] S1x1x2048x128.size inb_S2x4x2048x128_S1x1x2048x128_1_0_0_0, k1_pay13 a (k1_pay4 x2) (k1_pay5 x3)⟩,
   ⟨Rect.unit (s := S2x4x2048x128) ![0, 3, 0, 0] S1x1x2048x128.size inb_S2x4x2048x128_S1x1x2048x128_0_3_0_0, k1_pay12 (k1_pay5 x3) (k1_pay10 a x2) (k1_pay11 a)⟩,
   ⟨Rect.unit (s := S2x4x2048x128) ![0, 2, 0, 0] S1x1x2048x128.size inb_S2x4x2048x128_S1x1x2048x128_0_2_0_0, k1_pay8 a x2 x3⟩,
   ⟨Rect.unit (s := S2x4x2048x128) ![0, 1, 0, 0] S1x1x2048x128.size inb_S2x4x2048x128_S1x1x2048x128_0_1_0_0, k1_pay7 a x2 x3⟩,
   ⟨Rect.unit (s := S2x4x2048x128) ![0, 0, 0, 0] S1x1x2048x128.size inb_S2x4x2048x128_S1x1x2048x128_0_0_0_0, k1_pay6 a x2 x3⟩]

section Runs

variable (c : Dev nD) (i : grid1.Coords) (arg2 : Memref sig .tc .vmem S2048x1024 .bf16) (harg2 : arg2.IsWhole)
  (arg3 : Memref sig .tc .vmem S1024x1024 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S2x4x2048x128 .bf16) (harg6 : arg6.IsWhole)
  (arg7 : Memref sig .tc .vmem S2048x1024 .f32) (harg7 : arg7.IsWhole)
  (x0 : Vec F S2048x1024 .bf16) (x1 : Vec F S1024x1024 .f32) (x2 x3 : Vec F S2048x128 .f32) (x4 : Vec F S2x4x2048x128 .bf16) (xs : Vec F S2048x1024 .f32)

set_option maxHeartbeats 1000000 in
/-- At a first point the accumulator is left at the chunk's product. -/
theorem run_first (h0 : first i) (h1 : ¬ later i) (h2 : ¬ last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 x0 x1)) -∗ K ⟨⟩))
    ⊢ wp frame (wpE (defs₀ (F := F)) Variants.none c none) E (cc1__qproj_kernel i arg2 harg2 arg3 harg3 arg4 harg4 arg5 harg5 arg6 harg6 arg7 harg7) K := by
  simp only [cc1__qproj_kernel_eq_skeleton]; unfold cc1__qproj_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact HS
  ipureintro
  refine (View.read_writes_eq_canon _ _ _ (View.cover_of_tiledL _ S2048x1024.size (by sl_kernel_rfl) ·)).trans ?_
  rw [View.canon_unit_zero hz]
  simp only [View.readAt_eq_ld, harg2.read_unread, harg3.read_unread, View.ld_unit_zero (S := S2048x1024) hz,
    View.ld_unit_zero (S := S1024x1024) hz]

set_option maxHeartbeats 1000000 in
/-- At a middle point the chunk's product is added to the accumulator. -/
theorem run_mid (h0 : ¬ first i) (h1 : later i) (h2 : ¬ last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay2 xs x0 x1)) -∗ K ⟨⟩))
    ⊢ wp frame (wpE (defs₀ (F := F)) Variants.none c none) E (cc1__qproj_kernel i arg2 harg2 arg3 harg3 arg4 harg4 arg5 harg5 arg6 harg6 arg7 harg7) K := by
  simp only [cc1__qproj_kernel_eq_skeleton]; unfold cc1__qproj_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact HS
  ipureintro
  refine (View.read_writes_eq_canon _ _ _ (View.cover_of_tiledL _ S2048x1024.size (by sl_kernel_rfl) ·)).trans ?_
  rw [View.canon_unit_zero hz]
  simp only [View.readAt_eq_ld, harg2.read_unread, harg3.read_unread, harg7.read_unread, View.ld_unit_zero (S := S2048x1024) hz,
    View.ld_unit_zero (S := S1024x1024) hz]

set_option maxHeartbeats 1000000 in
/-- At a last point too, and the output block is the accumulator just stored. -/
theorem run_last (h0 : ¬ first i) (h1 : later i) (h2 : last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (View.canon (pieces (k1_pay2 xs x0 x1) x2 x3)) ∗ owns (c : Thread nD τ) arg7 fullShare (k1_pay2 xs x0 x1)) -∗ K ⟨⟩))
    ⊢ wp frame (wpE (defs₀ (F := F)) Variants.none c none) E (cc1__qproj_kernel i arg2 harg2 arg3 harg3 arg4 harg4 arg5 harg5 arg6 harg6 arg7 harg7) K := by
  simp only [cc1__qproj_kernel_eq_skeleton]; unfold cc1__qproj_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine Eq.trans (View.read_writes_eq_canon _ _ _ ?_) ?_
    · exact View.cover_of_tiledL _ S1x1x2048x128.size (by sl_kernel_rfl)
    sl_unfold_words
    rw [View.readCov_unit_zero (S := S2048x1024) _ hz]
    simp only [View.readAt_eq_ld, harg2.read_unread, harg3.read_unread, harg4.read_unread, harg5.read_unread, harg7.read_unread, View.ld_unit_zero (S := S2048x1024) hz,
      View.ld_unit_zero (S := S1024x1024) hz, View.ld_unit_zero (S := S2048x128) hz]
    rfl
  iexists _; isplitr; swap; · iexact HS
  ipureintro
  sl_unfold_words
  refine (View.read_writes_eq_canon _ _ _ (View.cover_of_tiledL _ S2048x1024.size (by sl_kernel_rfl) ·)).trans ?_
  rw [View.canon_unit_zero hz]
  simp only [View.readAt_eq_ld, harg2.read_unread, harg3.read_unread, harg7.read_unread, View.ld_unit_zero (S := S2048x1024) hz,
    View.ld_unit_zero (S := S1024x1024) hz]

end Runs

/-! ## The proof data over the contents `W` the region is entered with -/

variable (W : Dev nD → Valuation τ sig (Elt F))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- What point `n` leaves in the accumulator. -/
def acc (c : Dev nD) : (n : ℕ) → n < cfg1.N → Vec F S2048x1024 .f32
  | 0, h => k1_pay1 (iblk W c 0 ⟨0, h⟩) (iblk W c 1 ⟨0, h⟩)
  | n + 1, h => if (n + 1) % 4 = 0 then k1_pay1 (iblk W c 0 ⟨n + 1, h⟩) (iblk W c 1 ⟨n + 1, h⟩)
      else k1_pay2 (acc c n (Nat.lt_of_succ_lt h)) (iblk W c 0 ⟨n + 1, h⟩) (iblk W c 1 ⟨n + 1, h⟩)

theorem acc_first (c : Dev nD) (t : Fin cfg1.N) (h : t.val % 4 = 0) :
    acc W c t.val t.isLt = k1_pay1 (iblk W c 0 t) (iblk W c 1 t) := by
  obtain ⟨n, hn⟩ := t
  cases n with
  | zero => rfl
  | succ n => exact if_pos h

theorem acc_later (c : Dev nD) (t : Fin cfg1.N) (h : ¬ t.val % 4 = 0) :
    acc W c t.val t.isLt = k1_pay2 (acc W c (t.val - 1) (Nat.lt_of_le_of_lt (Nat.sub_le _ _) t.isLt)) (iblk W c 0 t) (iblk W c 1 t) := by
  obtain ⟨n, hn⟩ := t
  cases n with
  | zero => exact absurd (Nat.zero_mod _) h
  | succ n => exact if_neg h

/-- The accumulator, as the body is handed it. -/
abbrev scM : Memref sig .tc .vmem S2048x1024 .f32 := Memref.whole cc1_scratch0

/-- Before point `n`: the accumulator at what the point before left in it, the other scoped buffers and the generator at anything. -/
def Phi (c : Dev nD) : (n : ℕ) → n ≤ cfg1.N → sProp 𝕄
  | 0, _ => Pipeline.ΦA spec1 c
  | n + 1, hn => iprop(owns (c : Thread nD τ) scM fullShare (acc W c n hn) ∗ Pipeline.scopedRestBut spec1 c [cc1_scratch0] ∗ ∃ r, prngReg c r)

theorem PhiA_eq (c : Dev nD) : (Pipeline.ΦA spec1 c : sProp 𝕄)
    = iprop(((∃ d, owns (c : Thread nD τ) scM fullShare d) ∗ Pipeline.scopedRestBut spec1 c [cc1_scratch0]) ∗ ∃ r, prngReg c r) := by
  unfold Pipeline.ΦA; rw [scopedRest1_split]; simp only [scM, owns_whole]; try rfl

def dat (c : Dev nD) : Dat τ (Elt F) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => View.canon (pieces (acc W c t.val t.isLt) (iblk W c 2 t) (iblk W c 3 t))
  Φ t := Phi W c t.val (Nat.le_of_lt_succ t.isLt)
  q _ := fullShare
  owed _ := 0

theorem A_eq (c : Dev nD) (w : Fin cfg1.W) : (dat W c).A w = W c (Pipeline.arrRef spec1 w) := by dsimp only [dat]
theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = View.canon (pieces (acc W c t.val t.isLt) (iblk W c 2 t) (iblk W c 3 t)) := by dsimp only [dat]

theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

abbrev ms0 (t : Fin cfg1.N) : Memref sig .tc .vmem S2048x1024 .bf16 := win1_0.stage (cfg1.slots t 0)
abbrev ms1 (t : Fin cfg1.N) : Memref sig .tc .vmem S1024x1024 .f32 := win1_1.stage (cfg1.slots t 1)
abbrev ms2 (t : Fin cfg1.N) : Memref sig .tc .vmem S2048x128 .f32 := win1_2.stage (cfg1.slots t 2)
abbrev ms3 (t : Fin cfg1.N) : Memref sig .tc .vmem S2048x128 .f32 := win1_3.stage (cfg1.slots t 3)
abbrev ms4 (t : Fin cfg1.N) : Memref sig .tc .vmem S2x4x2048x128 .bf16 := win1_4.stage (cfg1.slots t 4)

/-- The accumulator before the body at point `t`, split off the invariant: at what the point before left, if there is one. -/
theorem Phi_open (c : Dev nD) (t : Fin cfg1.N) : (dat W c).Φ t.castSucc ⊢
    iprop(∃ d, ⌜t.val ≠ 0 → d = acc W c (t.val - 1) (Nat.lt_of_le_of_lt (Nat.sub_le _ _) t.isLt)⌝ ∗ owns (c : Thread nD τ) scM fullShare d
      ∗ Pipeline.scopedRestBut spec1 c [cc1_scratch0] ∗ ∃ r, prngReg c r) := by
  rw [show (dat W c).Φ t.castSucc = Phi W c t.val (Nat.le_of_lt t.isLt) from by dsimp only [dat]; exact Pipeline.Dat.Φ_castSucc (Phi W c) t]
  obtain ⟨n, hn⟩ := t
  cases n with
  | zero =>
    rw [show Phi W c (⟨0, hn⟩ : Fin cfg1.N).val (Nat.le_of_lt hn) = Pipeline.ΦA spec1 c from rfl, PhiA_eq]
    iintro ⟨⟨⟨%d, HS⟩, Hb⟩, Hg⟩
    iexists d
    isplitr; · ipureintro; exact fun h => absurd rfl h
    isplitl [HS]; · iexact HS
    isplitl [Hb]; · iexact Hb
    iexact Hg
  | succ n =>
    rw [show Phi W c (⟨n + 1, hn⟩ : Fin cfg1.N).val (Nat.le_of_lt hn) = iprop(owns (c : Thread nD τ) scM fullShare (acc W c n (Nat.lt_of_succ_lt hn)) ∗ Pipeline.scopedRestBut spec1 c [cc1_scratch0] ∗ ∃ r, prngReg c r) from rfl]
    iintro ⟨HS, Hb, Hg⟩
    iexists _
    isplitr; · ipureintro; exact fun _ => rfl
    isplitl [HS]; · iexact HS
    isplitl [Hb]; · iexact Hb
    iexact Hg

def bodyPre (c : Dev nD) (t : Fin cfg1.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t ∗ (dat W c).leavesExact 4 t)

set_option maxHeartbeats 4800000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3]
  rw [show (dat W c).owesAt () t.succ = (dat W c).owesAt () t.castSucc from rfl]
  rw [show (dat W c).Φ t.succ = iprop(owns (c : Thread nD τ) scM fullShare (acc W c t.val t.isLt) ∗ Pipeline.scopedRestBut spec1 c [cc1_scratch0] ∗ ∃ r, prngReg c r) from rfl]
  rw [show (dat W c).leavesExact 0 t = owns (c : Thread nD τ) (ms0 t) fullShare ((dat W c).after 0 t) from by
      unfold Dat.leavesExact; rw [show cfg1.idle 0 (grid1.coords t) = false from rfl], after_0]
  rw [show (dat W c).leavesExact 1 t = owns (c : Thread nD τ) (ms1 t) fullShare ((dat W c).after 1 t) from by
      unfold Dat.leavesExact; rw [show cfg1.idle 1 (grid1.coords t) = false from rfl], after_1]
  rw [show (dat W c).leavesExact 2 t = owns (c : Thread nD τ) (ms2 t) fullShare ((dat W c).after 2 t) from by
      unfold Dat.leavesExact; rw [show cfg1.idle 2 (grid1.coords t) = false from rfl], after_2]
  rw [show (dat W c).leavesExact 3 t = owns (c : Thread nD τ) (ms3 t) fullShare ((dat W c).after 3 t) from by
      unfold Dat.leavesExact; rw [show cfg1.idle 3 (grid1.coords t) = false from rfl], after_3]
  refine (sep_mono (Phi_open W c t) .rfl).trans ?_
  by_cases h0 : t.val % 4 = 0
  · rw [Dat.leavesExact_idle (dat W c) 4 t (idle_out t (by omega)) (keep_out t (by omega)), acc_first W c t h0]
    iintro ⟨⟨%ds, %hds, HS, Hb, Hg⟩, Ho, ⟨%d0, H0⟩, ⟨%d1, H1⟩, ⟨%d2, H2⟩, ⟨%d3, H3⟩, ⟨%d4, H4⟩⟩
    iapply (run_first c (grid1.coords t) _ _ _ _ _ _ _ _ _ _ _ _ (iblk W c 0 t) (iblk W c 1 t) (iblk W c 2 t) (iblk W c 3 t) _ _ ((first_iff t).mpr h0) (fun h => (later_iff t).mp h h0) (fun h => by have := (last_iff t).mp h; omega) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    iexists _; iexact H4
  · by_cases h3 : t.val % 4 = 3
    · rw [show (dat W c).leavesExact 4 t = owns (c : Thread nD τ) (ms4 t) fullShare ((dat W c).after 4 t) from by
        unfold Dat.leavesExact; rw [live_out t h3], after_4, acc_later W c t h0]
      iintro ⟨⟨%ds, %hds, HS, Hb, Hg⟩, Ho, ⟨%d0, H0⟩, ⟨%d1, H1⟩, ⟨%d2, H2⟩, ⟨%d3, H3⟩, ⟨%d4, H4⟩⟩
      obtain rfl := hds (fun h => h0 (by rw [h]))
      iapply (run_last c (grid1.coords t) _ _ _ _ _ _ _ _ _ _ _ _ (iblk W c 0 t) (iblk W c 1 t) (iblk W c 2 t) (iblk W c 3 t) _ _ (fun h => h0 ((first_iff t).mp h)) ((later_iff t).mpr h0) ((last_iff t).mpr h3) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexact H4
    · rw [Dat.leavesExact_idle (dat W c) 4 t (idle_out t h3) (keep_out t h3), acc_later W c t h0]
      iintro ⟨⟨%ds, %hds, HS, Hb, Hg⟩, Ho, ⟨%d0, H0⟩, ⟨%d1, H1⟩, ⟨%d2, H2⟩, ⟨%d3, H3⟩, ⟨%d4, H4⟩⟩
      obtain rfl := hds (fun h => h0 (by rw [h]))
      iapply (run_mid c (grid1.coords t) _ _ _ _ _ _ _ _ _ _ _ _ (iblk W c 0 t) (iblk W c 1 t) (iblk W c 2 t) (iblk W c 3 t) _ _ (fun h => h0 ((first_iff t).mp h)) ((later_iff t).mpr h0) (fun h => h3 ((last_iff t).mp h)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexists _; iexact H4

/-- The body table's row for this region is its body at the point. -/
theorem row (t : Fin cfg1.N) : (defs₀ (F := F)) .tc cfg1.body (cfg1.bodyArgs t (cfg1.slots t)) = bodyAt1 t := by
  unfold defs₀; rw [Defs.onTc_tc]

/-- The body at every point, as the pipeline asks for it. -/
theorem body (c : Dev nD) : Pipeline.BodyObligation (dat W c) (defs₀ (F := F)) Variants.none () Set.univ :=
  fun t => by rw [bigSep_W1, bigSep_W1, row]; exact triple_restated (sound_body W c t) rfl .rfl fun _ => .rfl

theorem enter (c : Dev nD) : iprop(Pipeline.scopedRest spec1 c ∗ ∃ r, prngReg c r) ⊢ (dat W c).Φ 0 := BI.Entails.refl _

theorem leave (c : Dev nD) : (dat W c).Φ (Fin.last cfg1.N) ⊢ iprop(Pipeline.scopedRest spec1 c ∗ ∃ r, prngReg c r) := by
  show _ ⊢ Pipeline.ΦA spec1 c
  rw [PhiA_eq]
  have hN : cfg1.N = 15 + 1 := N_1
  rw [show (dat W c).Φ (Fin.last cfg1.N) = Phi W c cfg1.N le_rfl from rfl]
  have e : Phi W c cfg1.N le_rfl = Phi W c (15 + 1) (by rw [hN]) := by congr 1
  rw [e]
  unfold Phi
  iintro ⟨HS, Hb, Hg⟩
  isplitl [HS Hb]
  · isplitl [HS]; · iexists _; iexact HS
    iexact Hb
  iexact Hg

end Cert.KernelIdeal.R1

end
-- ==== Proof.KernelIdeal.R2.lean ====
/- Region 2, the projections to rotated keys and to values: what each grid point leaves in the two accumulators and in the
   output blocks, and the
   proof that the body does so from any contents of the buffers the region finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.ValueKit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-- The point is the first of its column block. -/
abbrev first (i : grid2.Coords) : Prop := (Scalar.cmpi .ne (Scalar.extui (Scalar.cmpi .eq (BitVec.ofNat 32 (i 0).val) 0#32)) 0#32) = 1#1
/-- The point is a later one. -/
abbrev later (i : grid2.Coords) : Prop := (Scalar.cmpi .ne (Scalar.extui (Scalar.cmpi .sgt (BitVec.ofNat 32 (i 0).val) 0#32)) 0#32) = 1#1
/-- The point is the last one. -/
abbrev last (i : grid2.Coords) : Prop := k2_cond3 i = 1#1

theorem first_iff : ∀ t : Fin cfg2.N, first (grid2.coords t) ↔ t.val % 8 = 0 := (by decide +kernel : ∀ t : Fin grid2.N, first (grid2.coords t) ↔ t.val % 8 = 0)
theorem later_iff : ∀ t : Fin cfg2.N, later (grid2.coords t) ↔ ¬ t.val % 8 = 0 := (by decide +kernel : ∀ t : Fin grid2.N, later (grid2.coords t) ↔ ¬ t.val % 8 = 0)
theorem last_iff : ∀ t : Fin cfg2.N, last (grid2.coords t) ↔ t.val % 8 = 7 := (by decide +kernel : ∀ t : Fin grid2.N, last (grid2.coords t) ↔ t.val % 8 = 7)
theorem idle_out5 : ∀ t : Fin cfg2.N, ¬ t.val % 8 = 7 → cfg2.idle 5 (grid2.coords t) = true := (by decide +kernel : ∀ t : Fin grid2.N, ¬ t.val % 8 = 7 → cfg2.idle 5 (grid2.coords t) = true)
theorem idle_out6 : ∀ t : Fin cfg2.N, ¬ t.val % 8 = 7 → cfg2.idle 6 (grid2.coords t) = true := (by decide +kernel : ∀ t : Fin grid2.N, ¬ t.val % 8 = 7 → cfg2.idle 6 (grid2.coords t) = true)
theorem keep_out5 : ∀ t : Fin cfg2.N, ¬ t.val % 8 = 7 → (cfg2.win 5).flush t = false := (by decide +kernel : ∀ t : Fin grid2.N, ¬ t.val % 8 = 7 → (cfg2.win 5).flush t = false)
theorem keep_out6 : ∀ t : Fin cfg2.N, ¬ t.val % 8 = 7 → (cfg2.win 6).flush t = false := (by decide +kernel : ∀ t : Fin grid2.N, ¬ t.val % 8 = 7 → (cfg2.win 6).flush t = false)
theorem live_out5 : ∀ t : Fin cfg2.N, t.val % 8 = 7 → cfg2.idle 5 (grid2.coords t) = false := (by decide +kernel : ∀ t : Fin grid2.N, t.val % 8 = 7 → cfg2.idle 5 (grid2.coords t) = false)
theorem live_out6 : ∀ t : Fin cfg2.N, t.val % 8 = 7 → cfg2.idle 6 (grid2.coords t) = false := (by decide +kernel : ∀ t : Fin grid2.N, t.val % 8 = 7 → cfg2.idle 6 (grid2.coords t) = false)

/-- The eight heads of keys a last point stores, from the accumulator and the two rotation tables. -/
def pieces (a : Vec F S2048x1024 .f32) (x3 x4 : Vec F S2048x128 .f32) : List (View.Piece (Elt F) S2048x1024 .bf16) :=
  [⟨Rect.unit (s := S2048x1024) ![0, 896] S2048x128.size inb_S2048x1024_S2048x128_0_896, k2_pay8 a (k2_pay10 x3) (k2_pay11 x4)⟩,
   ⟨Rect.unit (s := S2048x1024) ![0, 768] S2048x128.size inb_S2048x1024_S2048x128_0_768, k2_pay7 a (k2_pay10 x3) (k2_pay11 x4)⟩,
   ⟨Rect.unit (s := S2048x1024) ![0, 640] S2048x128.size inb_S2048x1024_S2048x128_0_640, k2_pay6 a (k2_pay10 x3) (k2_pay11 x4)⟩,
   ⟨Rect.unit (s := S2048x1024) ![0, 512] S2048x128.size inb_S2048x1024_S2048x128_0_512, k2_pay5 (k2_pay17 a x3) (k2_pay18 a x4)⟩,
   ⟨Rect.unit (s := S2048x1024) ![0, 384] S2048x128.size inb_S2048x1024_S2048x128_0_384, k2_pay15 a x3 x4⟩,
   ⟨Rect.unit (s := S2048x1024) ![0, 256] S2048x128.size inb_S2048x1024_S2048x128_0_256, k2_pay14 a x3 x4⟩,
   ⟨Rect.unit (s := S2048x1024) ![0, 128] S2048x128.size inb_S2048x1024_S2048x128_0_128, k2_pay13 a x3 x4⟩,
   ⟨Rect.unit (s := S2048x1024) ![0, 0] S2048x128.size inb_S2048x1024_S2048x128_0_0, k2_pay12 a x3 x4⟩]

section Runs

variable (c : Dev nD) (i : grid2.Coords)
  (arg1 : Memref sig .tc .vmem S2048x512 .bf16) (harg1 : arg1.IsWhole)
  (arg2 : Memref sig .tc .vmem S1024x512 .f32) (harg2 : arg2.IsWhole)
  (arg3 : Memref sig .tc .vmem S1024x512 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S2048x1024 .bf16) (harg6 : arg6.IsWhole)
  (arg7 : Memref sig .tc .vmem S2048x1024 .bf16) (harg7 : arg7.IsWhole)
  (arg8 : Memref sig .tc .vmem S2048x1024 .f32) (harg8 : arg8.IsWhole)
  (arg9 : Memref sig .tc .vmem S2048x1024 .f32) (harg9 : arg9.IsWhole)
  (x0 : Vec F S2048x512 .bf16) (x1 : Vec F S1024x512 .f32) (x2 : Vec F S1024x512 .f32) (x3 : Vec F S2048x128 .f32) (x4 : Vec F S2048x128 .f32) (x5 : Vec F S2048x1024 .bf16) (x6 : Vec F S2048x1024 .bf16) (xs : Vec F S2048x1024 .f32) (ys : Vec F S2048x1024 .f32)

set_option maxHeartbeats 1000000 in
/-- At the first point the accumulators are left at the chunk's products. -/
theorem run_first (h0 : first i) (h1 : ¬ later i) (h2 : ¬ last i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs ∗ owns (c : Thread nD τ) arg9 fullShare ys
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay1 x0 x1) ∗ owns (c : Thread nD τ) arg9 fullShare (k2_pay2 x0 x2)) -∗ K ⟨⟩))
    ⊢ wp frame (wpE (defs₀ (F := F)) Variants.none c none) E (cc2__kvproj_kernel i arg1 harg1 arg2 harg2 arg3 harg3 arg4 harg4 arg5 harg5 arg6 harg6 arg7 harg7 arg8 harg8 arg9 harg9) K := by
  simp only [cc2__kvproj_kernel_eq_skeleton]; unfold cc2__kvproj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine Eq.trans (View.read_writes_eq_canon _ _ _ ?_) ?_
    · exact View.cover_of_tiledL _ S2048x1024.size (by sl_kernel_rfl)
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]
  iexists _; isplitr; swap; · iexact H8
  ipureintro
  refine Eq.trans (View.read_writes_eq_canon _ _ _ ?_) ?_
  · exact View.cover_of_tiledL _ S2048x1024.size (by sl_kernel_rfl)
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]

set_option maxHeartbeats 1000000 in
/-- At a middle point the chunk's products are added to the accumulators. -/
theorem run_mid (h0 : ¬ first i) (h1 : later i) (h2 : ¬ last i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs ∗ owns (c : Thread nD τ) arg9 fullShare ys
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay3 xs x0 x1) ∗ owns (c : Thread nD τ) arg9 fullShare (k2_pay4 ys x0 x2)) -∗ K ⟨⟩))
    ⊢ wp frame (wpE (defs₀ (F := F)) Variants.none c none) E (cc2__kvproj_kernel i arg1 harg1 arg2 harg2 arg3 harg3 arg4 harg4 arg5 harg5 arg6 harg6 arg7 harg7 arg8 harg8 arg9 harg9) K := by
  simp only [cc2__kvproj_kernel_eq_skeleton]; unfold cc2__kvproj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine Eq.trans (View.read_writes_eq_canon _ _ _ ?_) ?_
    · exact View.cover_of_tiledL _ S2048x1024.size (by sl_kernel_rfl)
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]
  iexists _; isplitr; swap; · iexact H8
  ipureintro
  refine Eq.trans (View.read_writes_eq_canon _ _ _ ?_) ?_
  · exact View.cover_of_tiledL _ S2048x1024.size (by sl_kernel_rfl)
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]

set_option maxHeartbeats 1000000 in
/-- At the last point too, and the output blocks are made from the accumulators just stored. -/
theorem run_last (h0 : ¬ first i) (h1 : later i) (h2 : last i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs ∗ owns (c : Thread nD τ) arg9 fullShare ys
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (View.canon (pieces (k2_pay3 xs x0 x1) x3 x4)) ∗ owns (c : Thread nD τ) arg7 fullShare (k2_pay9 (k2_pay4 ys x0 x2)) ∗ owns (c : Thread nD τ) arg8 fullShare (k2_pay3 xs x0 x1) ∗ owns (c : Thread nD τ) arg9 fullShare (k2_pay4 ys x0 x2)) -∗ K ⟨⟩))
    ⊢ wp frame (wpE (defs₀ (F := F)) Variants.none c none) E (cc2__kvproj_kernel i arg1 harg1 arg2 harg2 arg3 harg3 arg4 harg4 arg5 harg5 arg6 harg6 arg7 harg7 arg8 harg8 arg9 harg9) K := by
  simp only [cc2__kvproj_kernel_eq_skeleton]; unfold cc2__kvproj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine Eq.trans (View.read_writes_eq_canon _ _ _ ?_) ?_
    · exact View.cover_of_tiledL _ S2048x128.size (by sl_kernel_rfl)
    sl_unfold_words
    rw [View.readCov_unit_zero (S := S2048x1024) _ hz]
    simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]
    rfl
  isplitl [H6]
  · iexists _; isplitr; swap; · iexact H6
    ipureintro
    refine Eq.trans (View.read_writes_eq_canon _ _ _ ?_) ?_
    · exact View.cover_of_tiledL _ S2048x1024.size (by sl_kernel_rfl)
    sl_unfold_words
    rw [View.canon_unit_zero hz, View.readCov_unit_zero (S := S2048x1024) _ hz]
    simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]
  isplitl [H7]
  · iexists _; isplitr; swap; · iexact H7
    ipureintro
    refine Eq.trans (View.read_writes_eq_canon _ _ _ ?_) ?_
    · exact View.cover_of_tiledL _ S2048x1024.size (by sl_kernel_rfl)
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]
  iexists _; isplitr; swap; · iexact H8
  ipureintro
  refine Eq.trans (View.read_writes_eq_canon _ _ _ ?_) ?_
  · exact View.cover_of_tiledL _ S2048x1024.size (by sl_kernel_rfl)
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S2048x1024) hz, View.ld_unit_zero (S := S2048x512) hz, View.ld_unit_zero (S := S1024x512) hz, View.ld_unit_zero (S := S2048x128) hz]

end Runs

/-! ## The proof data over the contents `W` the region is entered with -/

variable (W : Dev nD → Valuation τ sig (Elt F))

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- What point `n` leaves in the keys' accumulator. -/
def acck (c : Dev nD) : (n : ℕ) → n < cfg2.N → Vec F S2048x1024 .f32
  | 0, h => k2_pay1 (iblk W c 0 ⟨0, h⟩) (iblk W c 1 ⟨0, h⟩)
  | n + 1, h => if (n + 1) % 8 = 0 then k2_pay1 (iblk W c 0 ⟨n + 1, h⟩) (iblk W c 1 ⟨n + 1, h⟩)
      else k2_pay3 (acck c n (Nat.lt_of_succ_lt h)) (iblk W c 0 ⟨n + 1, h⟩) (iblk W c 1 ⟨n + 1, h⟩)

theorem acck_first (c : Dev nD) (t : Fin cfg2.N) (h : t.val % 8 = 0) :
    acck W c t.val t.isLt = k2_pay1 (iblk W c 0 t) (iblk W c 1 t) := by
  obtain ⟨n, hn⟩ := t
  cases n with
  | zero => rfl
  | succ n => exact if_pos h

theorem acck_later (c : Dev nD) (t : Fin cfg2.N) (h : ¬ t.val % 8 = 0) :
    acck W c t.val t.isLt = k2_pay3 (acck W c (t.val - 1) (Nat.lt_of_le_of_lt (Nat.sub_le _ _) t.isLt)) (iblk W c 0 t) (iblk W c 1 t) := by
  obtain ⟨n, hn⟩ := t
  cases n with
  | zero => exact absurd (Nat.zero_mod _) h
  | succ n => exact if_neg h

/-- What point `n` leaves in the values' accumulator. -/
def accv (c : Dev nD) : (n : ℕ) → n < cfg2.N → Vec F S2048x1024 .f32
  | 0, h => k2_pay2 (iblk W c 0 ⟨0, h⟩) (iblk W c 2 ⟨0, h⟩)
  | n + 1, h => if (n + 1) % 8 = 0 then k2_pay2 (iblk W c 0 ⟨n + 1, h⟩) (iblk W c 2 ⟨n + 1, h⟩)
      else k2_pay4 (accv c n (Nat.lt_of_succ_lt h)) (iblk W c 0 ⟨n + 1, h⟩) (iblk W c 2 ⟨n + 1, h⟩)

theorem accv_first (c : Dev nD) (t : Fin cfg2.N) (h : t.val % 8 = 0) :
    accv W c t.val t.isLt = k2_pay2 (iblk W c 0 t) (iblk W c 2 t) := by
  obtain ⟨n, hn⟩ := t
  cases n with
  | zero => rfl
  | succ n => exact if_pos h

theorem accv_later (c : Dev nD) (t : Fin cfg2.N) (h : ¬ t.val % 8 = 0) :
    accv W c t.val t.isLt = k2_pay4 (accv W c (t.val - 1) (Nat.lt_of_le_of_lt (Nat.sub_le _ _) t.isLt)) (iblk W c 0 t) (iblk W c 2 t) := by
  obtain ⟨n, hn⟩ := t
  cases n with
  | zero => exact absurd (Nat.zero_mod _) h
  | succ n => exact if_neg h

/-- The accumulators, as the body is handed them. -/
abbrev scM : Memref sig .tc .vmem S2048x1024 .f32 := Memref.whole cc2_scratch0
abbrev scN : Memref sig .tc .vmem S2048x1024 .f32 := Memref.whole cc2_scratch1

/-- Before point `n`: the accumulators at what the point before left in them, the other scoped buffers and the generator at anything. -/
def Phi (c : Dev nD) : (n : ℕ) → n ≤ cfg2.N → sProp 𝕄
  | 0, _ => Pipeline.ΦA spec2 c
  | n + 1, hn => iprop(owns (c : Thread nD τ) scM fullShare (acck W c n hn) ∗ owns (c : Thread nD τ) scN fullShare (accv W c n hn) ∗ Pipeline.scopedRestBut spec2 c [cc2_scratch0, cc2_scratch1] ∗ ∃ r, prngReg c r)

theorem PhiA_eq (c : Dev nD) : (Pipeline.ΦA spec2 c : sProp 𝕄)
    = iprop((((∃ d, owns (c : Thread nD τ) scM fullShare d) ∗ (∃ d, owns (c : Thread nD τ) scN fullShare d)) ∗ Pipeline.scopedRestBut spec2 c [cc2_scratch0, cc2_scratch1]) ∗ ∃ r, prngReg c r) := by
  unfold Pipeline.ΦA; rw [scopedRest2_split]; simp only [scM, scN, owns_whole]; try rfl

def dat (c : Dev nD) : Dat τ (Elt F) Unit ℕ (UR sig nD τ) ℕ cfg2 c where
  A w := W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => View.canon (pieces (acck W c t.val t.isLt) (iblk W c 3 t) (iblk W c 4 t))
    | ⟨6, _⟩ => k2_pay9 (accv W c t.val t.isLt)
  Φ t := Phi W c t.val (Nat.le_of_lt_succ t.isLt)
  q _ := fullShare
  owed _ := 0

theorem A_eq (c : Dev nD) (w : Fin cfg2.W) : (dat W c).A w = W c (Pipeline.arrRef spec2 w) := by dsimp only [dat]
theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = iblk W c 3 t := by dsimp only [dat]
theorem after_4 (c : Dev nD) (t : Fin cfg2.N) : (dat W c).after 4 t = iblk W c 4 t := by dsimp only [dat]
theorem after_5 (c : Dev nD) (t : Fin cfg2.N) : (dat W c).after 5 t = View.canon (pieces (acck W c t.val t.isLt) (iblk W c 3 t) (iblk W c 4 t)) := by dsimp only [dat]
theorem after_6 (c : Dev nD) (t : Fin cfg2.N) : (dat W c).after 6 t = k2_pay9 (accv W c t.val t.isLt) := by dsimp only [dat]

theorem before_0 (c : Dev nD) (t : Fin cfg2.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

abbrev ms0 (t : Fin cfg2.N) : Memref sig .tc .vmem S2048x512 .bf16 := win2_0.stage (cfg2.slots t 0)
abbrev ms1 (t : Fin cfg2.N) : Memref sig .tc .vmem S1024x512 .f32 := win2_1.stage (cfg2.slots t 1)
abbrev ms2 (t : Fin cfg2.N) : Memref sig .tc .vmem S1024x512 .f32 := win2_2.stage (cfg2.slots t 2)
abbrev ms3 (t : Fin cfg2.N) : Memref sig .tc .vmem S2048x128 .f32 := win2_3.stage (cfg2.slots t 3)
abbrev ms4 (t : Fin cfg2.N) : Memref sig .tc .vmem S2048x128 .f32 := win2_4.stage (cfg2.slots t 4)
abbrev ms5 (t : Fin cfg2.N) : Memref sig .tc .vmem S2048x1024 .bf16 := win2_5.stage (cfg2.slots t 5)
abbrev ms6 (t : Fin cfg2.N) : Memref sig .tc .vmem S2048x1024 .bf16 := win2_6.stage (cfg2.slots t 6)

/-- The accumulators before the body at point `t`, split off the invariant: at what the point before left, if there is one. -/
theorem Phi_open (c : Dev nD) (t : Fin cfg2.N) : (dat W c).Φ t.castSucc ⊢
    iprop(∃ d e, ⌜t.val ≠ 0 → d = acck W c (t.val - 1) (Nat.lt_of_le_of_lt (Nat.sub_le _ _) t.isLt) ∧ e = accv W c (t.val - 1) (Nat.lt_of_le_of_lt (Nat.sub_le _ _) t.isLt)⌝
      ∗ owns (c : Thread nD τ) scM fullShare d ∗ owns (c : Thread nD τ) scN fullShare e ∗ Pipeline.scopedRestBut spec2 c [cc2_scratch0, cc2_scratch1] ∗ ∃ r, prngReg c r) := by
  rw [show (dat W c).Φ t.castSucc = Phi W c t.val (Nat.le_of_lt t.isLt) from by dsimp only [dat]; exact Pipeline.Dat.Φ_castSucc (Phi W c) t]
  obtain ⟨n, hn⟩ := t
  cases n with
  | zero =>
    rw [show Phi W c (⟨0, hn⟩ : Fin cfg2.N).val (Nat.le_of_lt hn) = Pipeline.ΦA spec2 c from rfl, PhiA_eq]
    iintro ⟨⟨⟨⟨%d, HS⟩, ⟨%e, HT⟩⟩, Hb⟩, Hg⟩
    iexists d; iexists e
    isplitr; · ipureintro; exact fun h => absurd rfl h
    isplitl [HS]; · iexact HS
    isplitl [HT]; · iexact HT
    isplitl [Hb]; · iexact Hb
    iexact Hg
  | succ n =>
    rw [show Phi W c (⟨n + 1, hn⟩ : Fin cfg2.N).val (Nat.le_of_lt hn) = iprop(owns (c : Thread nD τ) scM fullShare (acck W c n (Nat.lt_of_succ_lt hn)) ∗ owns (c : Thread nD τ) scN fullShare (accv W c n (Nat.lt_of_succ_lt hn)) ∗ Pipeline.scopedRestBut spec2 c [cc2_scratch0, cc2_scratch1] ∗ ∃ r, prngReg c r) from rfl]
    iintro ⟨HS, HT, Hb, Hg⟩
    iexists _; iexists _
    isplitr; · ipureintro; exact fun _ => ⟨rfl, rfl⟩
    isplitl [HS]; · iexact HS
    isplitl [HT]; · iexact HT
    isplitl [Hb]; · iexact Hb
    iexact Hg

def bodyPre (c : Dev nD) (t : Fin cfg2.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg2.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t ∗ (dat W c).leavesExact 4 t ∗ (dat W c).leavesExact 5 t ∗ (dat W c).leavesExact 6 t)

set_option maxHeartbeats 4800000 in
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3, before_4]
  rw [show (dat W c).owesAt () t.succ = (dat W c).owesAt () t.castSucc from rfl]
  rw [show (dat W c).Φ t.succ = iprop(owns (c : Thread nD τ) scM fullShare (acck W c t.val t.isLt) ∗ owns (c : Thread nD τ) scN fullShare (accv W c t.val t.isLt) ∗ Pipeline.scopedRestBut spec2 c [cc2_scratch0, cc2_scratch1] ∗ ∃ r, prngReg c r) from rfl]
  rw [show (dat W c).leavesExact 0 t = owns (c : Thread nD τ) (ms0 t) fullShare ((dat W c).after 0 t) from by
      unfold Dat.leavesExact; rw [show cfg2.idle 0 (grid2.coords t) = false from rfl], after_0]
  rw [show (dat W c).leavesExact 1 t = owns (c : Thread nD τ) (ms1 t) fullShare ((dat W c).after 1 t) from by
      unfold Dat.leavesExact; rw [show cfg2.idle 1 (grid2.coords t) = false from rfl], after_1]
  rw [show (dat W c).leavesExact 2 t = owns (c : Thread nD τ) (ms2 t) fullShare ((dat W c).after 2 t) from by
      unfold Dat.leavesExact; rw [show cfg2.idle 2 (grid2.coords t) = false from rfl], after_2]
  rw [show (dat W c).leavesExact 3 t = owns (c : Thread nD τ) (ms3 t) fullShare ((dat W c).after 3 t) from by
      unfold Dat.leavesExact; rw [show cfg2.idle 3 (grid2.coords t) = false from rfl], after_3]
  rw [show (dat W c).leavesExact 4 t = owns (c : Thread nD τ) (ms4 t) fullShare ((dat W c).after 4 t) from by
      unfold Dat.leavesExact; rw [show cfg2.idle 4 (grid2.coords t) = false from rfl], after_4]
  refine (sep_mono (Phi_open W c t) .rfl).trans ?_
  by_cases h0 : t.val % 8 = 0
  · rw [Dat.leavesExact_idle (dat W c) 5 t (idle_out5 t (by omega)) (keep_out5 t (by omega))]
    rw [Dat.leavesExact_idle (dat W c) 6 t (idle_out6 t (by omega)) (keep_out6 t (by omega))]
    rw [acck_first W c t h0, accv_first W c t h0]
    iintro ⟨⟨%ds, %es, %hds, HS, HT, Hb, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid2.coords t) _ _ _ _ _ _ _ _ _ _ _ _ _ _ _ _ _ _ (iblk W c 0 t) (iblk W c 1 t) (iblk W c 2 t) (iblk W c 3 t) (iblk W c 4 t) _ _ _ _ ((first_iff t).mpr h0) (fun h => (later_iff t).mp h h0) (fun h => by have := (last_iff t).mp h; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HT]; · iexact HT
    iintro ⟨H0, H1, H2, H3, H4, H5, H6, HS, HT⟩
    isplitl [HS HT Hb Hg]
    · isplitl [HS]; · iexact HS
      isplitl [HT]; · iexact HT
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h3 : t.val % 8 = 7
    · rw [show (dat W c).leavesExact 5 t = owns (c : Thread nD τ) (ms5 t) fullShare ((dat W c).after 5 t) from by
        unfold Dat.leavesExact; rw [live_out5 t h3], after_5]
      rw [show (dat W c).leavesExact 6 t = owns (c : Thread nD τ) (ms6 t) fullShare ((dat W c).after 6 t) from by
        unfold Dat.leavesExact; rw [live_out6 t h3], after_6]
      rw [acck_later W c t h0, accv_later W c t h0]
      iintro ⟨⟨%ds, %es, %hds, HS, HT, Hb, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl⟩ := hds (fun h => h0 (by rw [h]))
      iapply (run_last c (grid2.coords t) _ _ _ _ _ _ _ _ _ _ _ _ _ _ _ _ _ _ (iblk W c 0 t) (iblk W c 1 t) (iblk W c 2 t) (iblk W c 3 t) (iblk W c 4 t) _ _ _ _ (fun h => h0 ((first_iff t).mp h)) ((later_iff t).mpr h0) ((last_iff t).mpr h3) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HT]; · iexact HT
      iintro ⟨H0, H1, H2, H3, H4, H5, H6, HS, HT⟩
      isplitl [HS HT Hb Hg]
      · isplitl [HS]; · iexact HS
        isplitl [HT]; · iexact HT
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat W c) 5 t (idle_out5 t h3) (keep_out5 t h3)]
      rw [Dat.leavesExact_idle (dat W c) 6 t (idle_out6 t h3) (keep_out6 t h3)]
      rw [acck_later W c t h0, accv_later W c t h0]
      iintro ⟨⟨%ds, %es, %hds, HS, HT, Hb, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl⟩ := hds (fun h => h0 (by rw [h]))
      iapply (run_mid c (grid2.coords t) _ _ _ _ _ _ _ _ _ _ _ _ _ _ _ _ _ _ (iblk W c 0 t) (iblk W c 1 t) (iblk W c 2 t) (iblk W c 3 t) (iblk W c 4 t) _ _ _ _ (fun h => h0 ((first_iff t).mp h)) ((later_iff t).mpr h0) (fun h => h3 ((last_iff t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HT]; · iexact HT
      iintro ⟨H0, H1, H2, H3, H4, H5, H6, HS, HT⟩
      isplitl [HS HT Hb Hg]
      · isplitl [HS]; · iexact HS
        isplitl [HT]; · iexact HT
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body table's row for this region is its body at the point. -/
theorem row (t : Fin cfg2.N) : (defs₀ (F := F)) .tc cfg2.body (cfg2.bodyArgs t (cfg2.slots t)) = bodyAt2 t := by
  unfold defs₀; rw [Defs.onTc_tc]

/-- The body at every point, as the pipeline asks for it. -/
theorem body (c : Dev nD) : Pipeline.BodyObligation (dat W c) (defs₀ (F := F)) Variants.none () Set.univ :=
  fun t => by rw [bigSep_W2, bigSep_W2, row]; exact triple_restated (sound_body W c t) rfl .rfl fun _ => .rfl

theorem enter (c : Dev nD) : iprop(Pipeline.scopedRest spec2 c ∗ ∃ r, prngReg c r) ⊢ (dat W c).Φ 0 := BI.Entails.refl _

theorem leave (c : Dev nD) : (dat W c).Φ (Fin.last cfg2.N) ⊢ iprop(Pipeline.scopedRest spec2 c ∗ ∃ r, prngReg c r) := by
  show _ ⊢ Pipeline.ΦA spec2 c
  rw [PhiA_eq]
  have hN : cfg2.N = 7 + 1 := N_2
  rw [show (dat W c).Φ (Fin.last cfg2.N) = Phi W c cfg2.N le_rfl from rfl]
  have e : Phi W c cfg2.N le_rfl = Phi W c (7 + 1) (by rw [hN]) := by congr 1
  rw [e]
  unfold Phi
  iintro ⟨HS, HT, Hb, Hg⟩
  isplitl [HS HT Hb]
  · isplitl [HS HT]
    · isplitl [HS]; · iexists _; iexact HS
      iexists _; iexact HT
    iexact Hb
  iexact Hg

end Cert.KernelIdeal.R2

end
-- ==== Proof.KernelIdeal.R3.lean ====
/- Region 3, the Hadamard transform: what each grid point leaves in the output block, and the
   proof that the body does so from any contents of the buffers the region finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.ValueKit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-- The eight heads a point stores, from the block of keys and the Hadamard matrix. -/
def pieces (x0 : Vec F S512x1024 .bf16) (x1 : Vec F S128x128 .f32) : List (View.Piece (Elt F) S512x1024 .f32) :=
  [⟨Rect.unit (s := S512x1024) ![0, 896] S512x128.size inb_S512x1024_S512x128_0_896, k3_pay2 x1 (View.ld x0 (Rect.unit (s := S512x1024) ![0, 896] S512x128.size inb_S512x1024_S512x128_0_896))⟩,
   ⟨Rect.unit (s := S512x1024) ![0, 768] S512x128.size inb_S512x1024_S512x128_0_768, k3_pay1 x1 (View.ld x0 (Rect.unit (s := S512x1024) ![0, 768] S512x128.size inb_S512x1024_S512x128_0_768))⟩,
   ⟨Rect.unit (s := S512x1024) ![0, 640] S512x128.size inb_S512x1024_S512x128_0_640, k3_pay8 x1 (View.ld x0 (Rect.unit (s := S512x1024) ![0, 640] S512x128.size inb_S512x1024_S512x128_0_640))⟩,
   ⟨Rect.unit (s := S512x1024) ![0, 512] S512x128.size inb_S512x1024_S512x128_0_512, k3_pay7 x1 (View.ld x0 (Rect.unit (s := S512x1024) ![0, 512] S512x128.size inb_S512x1024_S512x128_0_512))⟩,
   ⟨Rect.unit (s := S512x1024) ![0, 384] S512x128.size inb_S512x1024_S512x128_0_384, k3_pay6 x1 (View.ld x0 (Rect.unit (s := S512x1024) ![0, 384] S512x128.size inb_S512x1024_S512x128_0_384))⟩,
   ⟨Rect.unit (s := S512x1024) ![0, 256] S512x128.size inb_S512x1024_S512x128_0_256, k3_pay5 x1 (View.ld x0 (Rect.unit (s := S512x1024) ![0, 256] S512x128.size inb_S512x1024_S512x128_0_256))⟩,
   ⟨Rect.unit (s := S512x1024) ![0, 128] S512x128.size inb_S512x1024_S512x128_0_128, k3_pay4 x1 (View.ld x0 (Rect.unit (s := S512x1024) ![0, 128] S512x128.size inb_S512x1024_S512x128_0_128))⟩,
   ⟨Rect.unit (s := S512x1024) ![0, 0] S512x128.size inb_S512x1024_S512x128_0_0, k3_pay3 x1 (View.ld x0 (Rect.unit (s := S512x1024) ![0, 0] S512x128.size inb_S512x1024_S512x128_0_0))⟩]

set_option maxHeartbeats 2000000 in
/-- The body at one point: the inputs stay, the output block is stored head by head. -/
theorem run (c : Dev nD) (i : grid3.Coords) (arg1 : Memref sig .tc .vmem S512x1024 .bf16) (harg1 : arg1.IsWhole)
    (arg2 : Memref sig .tc .vmem S128x128 .f32) (harg2 : arg2.IsWhole) (arg3 : Memref sig .tc .vmem S512x1024 .f32) (harg3 : arg3.IsWhole)
    (x0 : Vec F S512x1024 .bf16) (x1 : Vec F S128x128 .f32) (x2 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2
      ∗ (iprop(owns (c : Thread nD τ) arg1 fullShare x0 ∗ owns (c : Thread nD τ) arg2 fullShare x1 ∗ owns (c : Thread nD τ) arg3 fullShare (View.canon (pieces x0 x1))) -∗ K ⟨⟩))
    ⊢ wp frame (wpE (defs₀ (F := F)) Variants.none c none) E (cc3__hadamard_kernel i arg1 harg1 arg2 harg2 arg3 harg3) K := by
  simp only [cc3__hadamard_kernel_eq_skeleton]; unfold cc3__hadamard_kernel_skel
  simp only [k3_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  refine Eq.trans (View.read_writes_eq_canon _ _ _ ?_) ?_
  · exact View.cover_of_tiledL _ S512x128.size (by sl_kernel_rfl)
  sl_unfold_words
  simp only [View.readAt_eq_ld, harg1.read_unread, harg2.read_unread, View.ld_unit_zero (S := S128x128) hz]
  rfl

variable (W : Dev nD → Valuation τ sig (Elt F))

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))

def dat (c : Dev nD) : Dat τ (Elt F) Unit ℕ (UR sig nD τ) ℕ cfg3 c where
  A w := W c (Pipeline.arrRef spec3 w)
  after w t := match w with
    | ⟨0, _⟩ => iblk W c 0 t
    | ⟨1, _⟩ => iblk W c 1 t
    | ⟨2, _⟩ => View.canon (pieces (iblk W c 0 t) (iblk W c 1 t))
  Φ _ := Pipeline.ΦA spec3 c
  q _ := fullShare
  owed _ := 0

theorem A_eq (c : Dev nD) (w : Fin cfg3.W) : (dat W c).A w = W c (Pipeline.arrRef spec3 w) := by dsimp only [dat]
theorem after_0 (c : Dev nD) (t : Fin cfg3.N) : (dat W c).after 0 t = iblk W c 0 t := by dsimp only [dat]
theorem after_1 (c : Dev nD) (t : Fin cfg3.N) : (dat W c).after 1 t = iblk W c 1 t := by dsimp only [dat]
theorem after_2 (c : Dev nD) (t : Fin cfg3.N) : (dat W c).after 2 t = View.canon (pieces (iblk W c 0 t) (iblk W c 1 t)) := by dsimp only [dat]
theorem before_0 (c : Dev nD) (t : Fin cfg3.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

abbrev ms0 (t : Fin cfg3.N) : Memref sig .tc .vmem S512x1024 .bf16 := win3_0.stage (cfg3.slots t 0)
abbrev ms1 (t : Fin cfg3.N) : Memref sig .tc .vmem S128x128 .f32 := win3_1.stage (cfg3.slots t 1)
abbrev ms2 (t : Fin cfg3.N) : Memref sig .tc .vmem S512x1024 .f32 := win3_2.stage (cfg3.slots t 2)

def bodyPre (c : Dev nD) (t : Fin cfg3.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d)))

def bodyPost (c : Dev nD) (t : Fin cfg3.N) : sProp 𝕄 :=
  iprop((dat W c).Φ t.succ ∗ (dat W c).owesAt () t.succ
    ∗ (dat W c).leavesExact 0 t ∗ (dat W c).leavesExact 1 t ∗ (dat W c).leavesExact 2 t)

theorem leaves (c : Dev nD) (t : Fin cfg3.N) (w : Fin cfg3.W) :
    (dat W c).leavesExact w t = owns (c : Thread nD τ) ((cfg3.win w).stage (cfg3.slots t w)) fullShare ((dat W c).after w t) := by
  unfold Dat.leavesExact; rw [show cfg3.idle w (grid3.coords t) = false from rfl]

set_option maxHeartbeats 4800000 in
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before_0, before_1]
  rw [show (dat W c).owesAt () t.succ = (dat W c).owesAt () t.castSucc from rfl, show (dat W c).Φ t.succ = (dat W c).Φ t.castSucc from rfl]
  rw [show (dat W c).leavesExact 0 t = owns (c : Thread nD τ) (ms0 t) fullShare ((dat W c).after 0 t) from leaves W c t 0, after_0]
  rw [show (dat W c).leavesExact 1 t = owns (c : Thread nD τ) (ms1 t) fullShare ((dat W c).after 1 t) from leaves W c t 1, after_1]
  rw [show (dat W c).leavesExact 2 t = owns (c : Thread nD τ) (ms2 t) fullShare ((dat W c).after 2 t) from leaves W c t 2, after_2]
  iintro ⟨HΦ, Ho, ⟨%d0, H0⟩, ⟨%d1, H1⟩, ⟨%d2, H2⟩⟩
  iapply (run c (grid3.coords t) _ _ _ _ _ _ (iblk W c 0 t) (iblk W c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The body table's row for this region is its body at the point. -/
theorem row (t : Fin cfg3.N) : (defs₀ (F := F)) .tc cfg3.body (cfg3.bodyArgs t (cfg3.slots t)) = bodyAt3 t := by
  unfold defs₀; rw [Defs.onTc_tc]

/-- The body at every point, as the pipeline asks for it. -/
theorem body (c : Dev nD) : Pipeline.BodyObligation (dat W c) (defs₀ (F := F)) Variants.none () Set.univ :=
  fun t => by rw [bigSep_W3, bigSep_W3, row]; exact triple_restated (sound_body W c t) rfl .rfl fun _ => .rfl

theorem enter (c : Dev nD) : iprop(Pipeline.scopedRest spec3 c ∗ ∃ r, prngReg c r) ⊢ (dat W c).Φ 0 := BI.Entails.refl _

theorem leave (c : Dev nD) : (dat W c).Φ (Fin.last cfg3.N) ⊢ iprop(Pipeline.scopedRest spec3 c ∗ ∃ r, prngReg c r) := BI.Entails.refl _

end Cert.KernelIdeal.R3

end
-- ==== Proof.KernelIdeal.R4.lean ====
/- Region 4, causal attention: what each grid point leaves in the output block, and the
   proof that the body does so from any contents of the buffers the region finds. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.Frame
public import Idealize.ShloMosaic.Lib.Pipeline.FrameBody
public import Idealize.ShloMosaic.Lib.Pipeline.ValueKit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl
theorem hz4 : (![0, 0, 0, 0] : Fin 4 → Nat) = fun _ => 0 := funext fun a => by fin_cases a <;> rfl

/-- What the loop over key blocks carries: the running maximum, the running sum and the running product. -/
abbrev St (F : FTy → Type) := FVec F S2048x1 .f32 × FVec F S2048x1 .f32 × FVec F S2048x128 .f32

/-- Rows `512 k` to `512 k + 511` of an array of keys or values. -/
def rows (x : Vec F S2048x128 .bf16) (i : grid4.Coords) (k : Fin (k4_t1_loop i).trips) : Vec F S512x128 .bf16 :=
  View.ld x (Rect.unit (s := S2048x128) (k4_off1 i k) S512x128.size (k4_off1_inb i k))

/-- The rows of the diagonal block. -/
def diag (x : Vec F S2048x128 .bf16) (i : grid4.Coords) : Vec F S512x128 .bf16 :=
  View.ld x (Rect.unit (s := S2048x128) (k4_off3 i) S512x128.size (k4_off3_inb i))

/-- One trip of the loop, on a block of keys and a block of values. -/
def step (v0 : Vec F S1x4x512x128 .bf16) (kb vb : Vec F S512x128 .bf16) (s : St F) : St F :=
  (k4_pay11 v0 s.1 kb, k4_pay14 v0 s.1 s.2.1 kb, k4_pay15 v0 s.1 s.2.2 kb vb)

/-- What the loop carries before trip `n`. -/
def st (i : grid4.Coords) (v0 : Vec F S1x4x512x128 .bf16) (x1 x2 : Vec F S2048x128 .bf16) : ℕ → St F
  | 0 => (k4_pay7, k4_pay8, k4_pay9)
  | n + 1 => if h : n < (k4_t1_loop i).trips then step v0 (rows x1 i ⟨n, h⟩) (rows x2 i ⟨n, h⟩) (st i v0 x1 x2 n) else st i v0 x1 x2 n

theorem st_succ (i : grid4.Coords) (v0 : Vec F S1x4x512x128 .bf16) (x1 x2 : Vec F S2048x128 .bf16) (n : ℕ) :
    st i v0 x1 x2 (n + 1) = if h : n < (k4_t1_loop i).trips then step v0 (rows x1 i ⟨n, h⟩) (rows x2 i ⟨n, h⟩) (st i v0 x1 x2 n) else st i v0 x1 x2 n := rfl

/-- What the loop has carried to its end. -/
abbrev fin (i : grid4.Coords) (v0 : Vec F S1x4x512x128 .bf16) (x1 x2 : Vec F S2048x128 .bf16) : St F := st i v0 x1 x2 (k4_t1_loop i).trips

/-- The four heads a point stores, from what the loop carried and the diagonal block. -/
def pieces (s : St F) (v0 : Vec F S1x4x512x128 .bf16) (kd vd : Vec F S512x128 .bf16) : List (View.Piece (Elt F) S512x512 .bf16) :=
  [⟨Rect.unit (s := S512x512) ![0, 384] S512x128.size inb_S512x512_S512x128_0_384, k4_pay5 s.2.1 s.2.2 (k4_pay22 vd) (k4_pay23 v0 kd) (k4_pay24 v0 s.1 kd) (k4_pay25 v0 s.1 kd)⟩,
   ⟨Rect.unit (s := S512x512) ![0, 256] S512x128.size inb_S512x512_S512x128_0_256, k4_pay4 s.2.1 s.2.2 (k4_pay22 vd) (k4_pay23 v0 kd) (k4_pay24 v0 s.1 kd) (k4_pay25 v0 s.1 kd)⟩,
   ⟨Rect.unit (s := S512x512) ![0, 128] S512x128.size inb_S512x512_S512x128_0_128, k4_pay3 s.2.1 s.2.2 (k4_pay22 vd) (k4_pay23 v0 kd) (k4_pay24 v0 s.1 kd) (k4_pay25 v0 s.1 kd)⟩,
   ⟨Rect.unit (s := S512x512) ![0, 0] S512x128.size inb_S512x512_S512x128_0_0, k4_pay2 s.2.1 s.2.2 (k4_pay22 vd) (k4_pay23 v0 kd) (k4_pay24 v0 s.1 kd) (k4_pay25 v0 s.1 kd)⟩]

/-- The loop's second half makes no trip: the blocks are looped over in steps of one. -/
theorem trips2 : ∀ i : grid4.Coords, (k4_t2_loop i).trips = 0 := by decide +kernel

section Runs
variable (c : Dev nD) (i : grid4.Coords) (arg2 : Memref sig .tc .vmem S1x4x512x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x512 .bf16) (harg5 : arg5.IsWhole)
  (x0 : Vec F S1x4x512x128 .bf16) (x1 : Vec F S2048x128 .bf16) (x2 : Vec F S2048x128 .bf16) (x3 : Vec F S512x512 .bf16)

set_option maxHeartbeats 1000000 in
/-- A trip yields `step` of the trip's blocks. -/
theorem trip_eq (v0 : Vec F S1x4x512x128 .bf16) (k : Fin (k4_t1_loop i).trips) (s : St F) :
    tripR_k4_t1 (F := F) Variants.none c none i arg2 harg2 arg3 harg3 arg4 harg4 arg5 harg5 v0 (harg3.unread x1) (harg4.unread x2) k s
      = step v0 (rows x1 i k) (rows x2 i k) s := by
  unfold tripR_k4_t1
  have e : (trip_k4_t1 (F := F) Variants.none c none i arg2 harg2 arg3 harg3 arg4 harg4 arg5 harg5 v0 (harg3.unread x1) (harg4.unread x2) k).1 s
      = (k4_pay11 v0 s.1 (arg3.view.readAt (Elt F) (Rect.unit (s := S2048x128) (k4_off1 i k) S512x128.size (k4_off1_inb i k)).toLoadRect (harg3.unread x1)),
         k4_pay14 v0 s.1 s.2.1 (arg3.view.readAt (Elt F) (Rect.unit (s := S2048x128) (k4_off1 i k) S512x128.size (k4_off1_inb i k)).toLoadRect (harg3.unread x1)),
         k4_pay15 v0 s.1 s.2.2 (arg3.view.readAt (Elt F) (Rect.unit (s := S2048x128) (k4_off1 i k) S512x128.size (k4_off1_inb i k)).toLoadRect (harg3.unread x1))
           (arg4.view.readAt (Elt F) (Rect.unit (s := S2048x128) (k4_off1 i k) S512x128.size (k4_off1_inb i k)).toLoadRect (harg4.unread x2))) := by
    unfold trip_k4_t1; rfl
  rw [e]
  simp only [View.readAt_eq_ld, harg3.read_unread, harg4.read_unread]
  rfl

/-- The generated recursion is `st`. -/
theorem st_eq (v0 : Vec F S1x4x512x128 .bf16) (n : ℕ) (hn : n ≤ (k4_t1_loop i).trips) :
    st_k4_t1 (F := F) Variants.none c none i arg2 harg2 arg3 harg3 arg4 harg4 arg5 harg5 v0 (harg3.unread x1) (harg4.unread x2) (k4_pay7, k4_pay8, k4_pay9) n
      = st i v0 x1 x2 n := by
  induction n with
  | zero => rfl
  | succ n ih =>
    rw [st_k4_t1_succ (F := F) Variants.none c none i arg2 harg2 arg3 harg3 arg4 harg4 arg5 harg5 v0 (harg3.unread x1) (harg4.unread x2) _ ⟨n, hn⟩, trip_eq, ih (Nat.le_of_succ_le hn), st_succ, dif_pos (Nat.lt_of_succ_le hn)]

set_option maxHeartbeats 4000000 in
/-- The body at one point: the inputs stay, the output block is stored head by head. -/
theorem run (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
      ∗ (iprop(owns (c : Thread nD τ) arg2 fullShare x0 ∗ owns (c : Thread nD τ) arg3 fullShare x1 ∗ owns (c : Thread nD τ) arg4 fullShare x2
        ∗ owns (c : Thread nD τ) arg5 fullShare (View.canon (pieces (fin i x0 x1 x2) x0 (diag x1 i) (diag x2 i)))) -∗ K ⟨⟩))
    ⊢ wp frame (wpE (defs₀ (F := F)) Variants.none c none) E (cc4__attn_kernel i arg2 harg2 arg3 harg3 arg4 harg4 arg5 harg5) K := by
  simp only [cc4__attn_kernel_eq_skeleton]; unfold cc4__attn_kernel_skel
  simp only [k4_part1_eq_skeleton]
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  refine Eq.trans (View.read_writes_eq_canon _ _ _ ?_) ?_
  · exact View.cover_of_tiledL _ S512x128.size (by sl_kernel_rfl)
  sl_unfold_words
  simp only [trips2 i, st_k4_t2_zero, View.readAt_eq_ld, harg2.read_unread, harg3.read_unread, harg4.read_unread, View.ld_unit_zero (S := S1x4x512x128) hz4]
  simp only [st_eq c i arg2 harg2 arg3 harg3 arg4 harg4 arg5 harg5 x1 x2 x0 _ le_rfl]
  rfl

end Runs

variable (W : Dev nD → Valuation τ sig (Elt F))

/-- Window `w`'s block at point `t`. -/
def iblk (c : Dev nD) (w : Fin cfg4.W) (t : Fin cfg4.N) : ((cfg4.win w).xblock (cfg4.grid.coords t)).Idx → Elt F (cfg4.win w).elt :=
  ((cfg4.win w).blk t).view.read (Elt F) (W c (Pipeline.arrRef spec4 w))

def dat (c : Dev nD) : Dat τ (Elt F) Unit ℕ (UR sig nD τ) ℕ cfg4 c where
  A w := W c (Pipeline.arrRef spec4 w)
  after w t := match w with
    | ⟨0, _⟩ => iblk W c 0 t
    | ⟨1, _⟩ => iblk W c 1 t
    | ⟨2, _⟩ => iblk W c 2 t
    | ⟨3, _⟩ => View.canon (pieces (fin (grid4.coords t) (iblk W c 0 t) (iblk W c 1 t) (iblk W c 2 t)) (iblk W c 0 t) (diag (iblk W c 1 t) (grid4.coords t)) (diag (iblk W c 2 t) (grid4.coords t)))
  Φ _ := Pipeline.ΦA spec4 c
  q _ := fullShare
  owed _ := 0

theorem A_eq (c : Dev nD) (w : Fin cfg4.W) : (dat W c).A w = W c (Pipeline.arrRef spec4 w) := by dsimp only [dat]
theorem after_0 (c : Dev nD) (t : Fin cfg4.N) : (dat W c).after 0 t = iblk W c 0 t := by dsimp only [dat]
theorem after_1 (c : Dev nD) (t : Fin cfg4.N) : (dat W c).after 1 t = iblk W c 1 t := by dsimp only [dat]
theorem after_2 (c : Dev nD) (t : Fin cfg4.N) : (dat W c).after 2 t = iblk W c 2 t := by dsimp only [dat]
theorem after_3 (c : Dev nD) (t : Fin cfg4.N) : (dat W c).after 3 t = View.canon (pieces (fin (grid4.coords t) (iblk W c 0 t) (iblk W c 1 t) (iblk W c 2 t)) (iblk W c 0 t) (diag (iblk W c 1 t) (grid4.coords t)) (diag (iblk W c 2 t) (grid4.coords t))) := by dsimp only [dat]
theorem before_0 (c : Dev nD) (t : Fin cfg4.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg4.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg4.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

abbrev ms0 (t : Fin cfg4.N) : Memref sig .tc .vmem S1x4x512x128 .bf16 := win4_0.stage (cfg4.slots t 0)
abbrev ms1 (t : Fin cfg4.N) : Memref sig .tc .vmem S2048x128 .bf16 := win4_1.stage (cfg4.slots t 1)
abbrev ms2 (t : Fin cfg4.N) : Memref sig .tc .vmem S2048x128 .bf16 := win4_2.stage (cfg4.slots t 2)
abbrev ms3 (t : Fin cfg4.N) : Memref sig .tc .vmem S512x512 .bf16 := win4_3.stage (cfg4.slots t 3)

def bodyPre (c : Dev nD) (t : Fin cfg4.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d)))

def bodyPost (c : Dev nD) (t : Fin cfg4.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t)

theorem leaves (c : Dev nD) (t : Fin cfg4.N) (w : Fin cfg4.W) :
    (dat W c).leavesExact w t = owns (c : Thread nD τ) ((cfg4.win w).stage (cfg4.slots t w)) fullShare ((dat W c).after w t) := by
  unfold Dat.leavesExact; rw [show cfg4.idle w (grid4.coords t) = false from rfl]

set_option maxHeartbeats 4800000 in
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before_0, before_1, before_2]
  rw [show (dat W c).owesAt () t.succ = (dat W c).owesAt () t.castSucc from rfl, show (dat W c).Φ t.succ = (dat W c).Φ t.castSucc from rfl]
  rw [show (dat W c).leavesExact 0 t = owns (c : Thread nD τ) (ms0 t) fullShare ((dat W c).after 0 t) from leaves W c t 0, after_0]
  rw [show (dat W c).leavesExact 1 t = owns (c : Thread nD τ) (ms1 t) fullShare ((dat W c).after 1 t) from leaves W c t 1, after_1]
  rw [show (dat W c).leavesExact 2 t = owns (c : Thread nD τ) (ms2 t) fullShare ((dat W c).after 2 t) from leaves W c t 2, after_2]
  rw [show (dat W c).leavesExact 3 t = owns (c : Thread nD τ) (ms3 t) fullShare ((dat W c).after 3 t) from leaves W c t 3, after_3]
  iintro ⟨HΦ, Ho, ⟨%d0, H0⟩, ⟨%d1, H1⟩, ⟨%d2, H2⟩, ⟨%d3, H3⟩⟩
  iapply (run c (grid4.coords t) _ _ _ _ _ _ _ _ (iblk W c 0 t) (iblk W c 1 t) (iblk W c 2 t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row for this region is its body at the point. -/
theorem row (t : Fin cfg4.N) : (defs₀ (F := F)) .tc cfg4.body (cfg4.bodyArgs t (cfg4.slots t)) = bodyAt4 t := by
  unfold defs₀; rw [Defs.onTc_tc]

/-- The body at every point, as the pipeline asks for it. -/
theorem body (c : Dev nD) : Pipeline.BodyObligation (dat W c) (defs₀ (F := F)) Variants.none () Set.univ :=
  fun t => by rw [bigSep_W4, bigSep_W4, row]; exact triple_restated (sound_body W c t) rfl .rfl fun _ => .rfl

theorem enter (c : Dev nD) : iprop(Pipeline.scopedRest spec4 c ∗ ∃ r, prngReg c r) ⊢ (dat W c).Φ 0 := BI.Entails.refl _

theorem leave (c : Dev nD) : (dat W c).Φ (Fin.last cfg4.N) ⊢ iprop(Pipeline.scopedRest spec4 c ∗ ∃ r, prngReg c r) := BI.Entails.refl _

end Cert.KernelIdeal.R4

end
-- ==== Proof.KernelIdeal.R5.lean ====
/- Region 5, the output projection: what each grid point leaves in the accumulator and in the output block, and the
   proof that the body does so from any contents of the buffers the region finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.ValueKit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-- The point is the first of its column block. -/
abbrev first (i : grid5.Coords) : Prop := (Scalar.cmpi .ne (Scalar.extui (Scalar.cmpi .eq (BitVec.ofNat 32 (i 1).val) 0#32)) 0#32) = 1#1
/-- The point is a later one. -/
abbrev later (i : grid5.Coords) : Prop := (Scalar.cmpi .ne (Scalar.extui (Scalar.cmpi .sgt (BitVec.ofNat 32 (i 1).val) 0#32)) 0#32) = 1#1
/-- The point is the last one. -/
abbrev last (i : grid5.Coords) : Prop := k5_cond3 i = 1#1

theorem first_iff : ∀ t : Fin cfg5.N, first (grid5.coords t) ↔ t.val % 4 = 0 := (by decide +kernel : ∀ t : Fin grid5.N, first (grid5.coords t) ↔ t.val % 4 = 0)
theorem later_iff : ∀ t : Fin cfg5.N, later (grid5.coords t) ↔ ¬ t.val % 4 = 0 := (by decide +kernel : ∀ t : Fin grid5.N, later (grid5.coords t) ↔ ¬ t.val % 4 = 0)
theorem last_iff : ∀ t : Fin cfg5.N, last (grid5.coords t) ↔ t.val % 4 = 3 := (by decide +kernel : ∀ t : Fin grid5.N, last (grid5.coords t) ↔ t.val % 4 = 3)
theorem idle_out : ∀ t : Fin cfg5.N, ¬ t.val % 4 = 3 → cfg5.idle 2 (grid5.coords t) = true := (by decide +kernel : ∀ t : Fin grid5.N, ¬ t.val % 4 = 3 → cfg5.idle 2 (grid5.coords t) = true)
theorem keep_out : ∀ t : Fin cfg5.N, ¬ t.val % 4 = 3 → (cfg5.win 2).flush t = false := (by decide +kernel : ∀ t : Fin grid5.N, ¬ t.val % 4 = 3 → (cfg5.win 2).flush t = false)
theorem live_out : ∀ t : Fin cfg5.N, t.val % 4 = 3 → cfg5.idle 2 (grid5.coords t) = false := (by decide +kernel : ∀ t : Fin grid5.N, t.val % 4 = 3 → cfg5.idle 2 (grid5.coords t) = false)

section Runs

variable (c : Dev nD) (i : grid5.Coords) (arg2 : Memref sig .tc .vmem S2048x1024 .bf16) (harg2 : arg2.IsWhole)
  (arg3 : Memref sig .tc .vmem S1024x1024 .f32) (harg3 : arg3.IsWhole) (arg4 : Memref sig .tc .vmem S2048x1024 .f32) (harg4 : arg4.IsWhole)
  (arg5 : Memref sig .tc .vmem S2048x1024 .f32) (harg5 : arg5.IsWhole)
  (x0 : Vec F S2048x1024 .bf16) (x1 : Vec F S1024x1024 .f32) (x2 xs : Vec F S2048x1024 .f32)

set_option maxHeartbeats 1000000 in
/-- At a first point the accumulator is left at the chunk's product. -/
theorem run_first (h0 : first i) (h1 : ¬ later i) (h2 : ¬ last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
      ∗ (iprop(owns (c : Thread nD τ) arg2 fullShare x0 ∗ owns (c : Thread nD τ) arg3 fullShare x1 ∗ owns (c : Thread nD τ) arg4 fullShare x2 ∗ owns (c : Thread nD τ) arg5 fullShare (k5_pay1 x0 x1)) -∗ K ⟨⟩))
    ⊢ wp frame (wpE (defs₀ (F := F)) Variants.none c none) E (cc5__matmul_kernel i arg2 harg2 arg3 harg3 arg4 harg4 arg5 harg5) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HS
  ipureintro
  refine (View.read_writes_eq_canon _ _ _ (View.cover_of_tiledL _ S2048x1024.size (by sl_kernel_rfl) ·)).trans ?_
  rw [View.canon_unit_zero hz]
  simp only [View.readAt_eq_ld, harg2.read_unread, harg3.read_unread, View.ld_unit_zero (S := S2048x1024) hz,
    View.ld_unit_zero (S := S1024x1024) hz]

set_option maxHeartbeats 1000000 in
/-- At a middle point the chunk's product is added to the accumulator. -/
theorem run_mid (h0 : ¬ first i) (h1 : later i) (h2 : ¬ last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
      ∗ (iprop(owns (c : Thread nD τ) arg2 fullShare x0 ∗ owns (c : Thread nD τ) arg3 fullShare x1 ∗ owns (c : Thread nD τ) arg4 fullShare x2 ∗ owns (c : Thread nD τ) arg5 fullShare (k5_pay2 xs x0 x1)) -∗ K ⟨⟩))
    ⊢ wp frame (wpE (defs₀ (F := F)) Variants.none c none) E (cc5__matmul_kernel i arg2 harg2 arg3 harg3 arg4 harg4 arg5 harg5) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HS
  ipureintro
  refine (View.read_writes_eq_canon _ _ _ (View.cover_of_tiledL _ S2048x1024.size (by sl_kernel_rfl) ·)).trans ?_
  rw [View.canon_unit_zero hz]
  simp only [View.readAt_eq_ld, harg2.read_unread, harg3.read_unread, harg5.read_unread, View.ld_unit_zero (S := S2048x1024) hz,
    View.ld_unit_zero (S := S1024x1024) hz]

set_option maxHeartbeats 1000000 in
/-- At a last point too, and the output block is the accumulator just stored. -/
theorem run_last (h0 : ¬ first i) (h1 : later i) (h2 : last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
      ∗ (iprop(owns (c : Thread nD τ) arg2 fullShare x0 ∗ owns (c : Thread nD τ) arg3 fullShare x1 ∗ owns (c : Thread nD τ) arg4 fullShare (k5_pay2 xs x0 x1) ∗ owns (c : Thread nD τ) arg5 fullShare (k5_pay2 xs x0 x1)) -∗ K ⟨⟩))
    ⊢ wp frame (wpE (defs₀ (F := F)) Variants.none c none) E (cc5__matmul_kernel i arg2 harg2 arg3 harg3 arg4 harg4 arg5 harg5) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S2048x1024.size (by sl_kernel_rfl) ·)).trans ?_
    sl_unfold_words
    rw [View.canon_unit_zero hz, View.readCov_unit_zero (S := S2048x1024) _ hz]
    simp only [View.readAt_eq_ld, harg2.read_unread, harg3.read_unread, harg5.read_unread, View.ld_unit_zero (S := S2048x1024) hz,
      View.ld_unit_zero (S := S1024x1024) hz]
  iexists _; isplitr; swap; · iexact HS
  ipureintro
  sl_unfold_words
  refine (View.read_writes_eq_canon _ _ _ (View.cover_of_tiledL _ S2048x1024.size (by sl_kernel_rfl) ·)).trans ?_
  rw [View.canon_unit_zero hz]
  simp only [View.readAt_eq_ld, harg2.read_unread, harg3.read_unread, harg5.read_unread, View.ld_unit_zero (S := S2048x1024) hz,
    View.ld_unit_zero (S := S1024x1024) hz]

end Runs

/-! ## The proof data over the contents `W` the region is entered with -/

variable (W : Dev nD → Valuation τ sig (Elt F))

/-- Window `w`'s block at point `t`. -/
def iblk (c : Dev nD) (w : Fin cfg5.W) (t : Fin cfg5.N) : ((cfg5.win w).xblock (cfg5.grid.coords t)).Idx → Elt F (cfg5.win w).elt :=
  ((cfg5.win w).blk t).view.read (Elt F) (W c (Pipeline.arrRef spec5 w))

/-- What point `n` leaves in the accumulator. -/
def acc (c : Dev nD) : (n : ℕ) → n < cfg5.N → Vec F S2048x1024 .f32
  | 0, h => k5_pay1 (iblk W c 0 ⟨0, h⟩) (iblk W c 1 ⟨0, h⟩)
  | n + 1, h => if (n + 1) % 4 = 0 then k5_pay1 (iblk W c 0 ⟨n + 1, h⟩) (iblk W c 1 ⟨n + 1, h⟩)
      else k5_pay2 (acc c n (Nat.lt_of_succ_lt h)) (iblk W c 0 ⟨n + 1, h⟩) (iblk W c 1 ⟨n + 1, h⟩)

theorem acc_first (c : Dev nD) (t : Fin cfg5.N) (h : t.val % 4 = 0) :
    acc W c t.val t.isLt = k5_pay1 (iblk W c 0 t) (iblk W c 1 t) := by
  obtain ⟨n, hn⟩ := t
  cases n with
  | zero => rfl
  | succ n => exact if_pos h

theorem acc_later (c : Dev nD) (t : Fin cfg5.N) (h : ¬ t.val % 4 = 0) :
    acc W c t.val t.isLt = k5_pay2 (acc W c (t.val - 1) (Nat.lt_of_le_of_lt (Nat.sub_le _ _) t.isLt)) (iblk W c 0 t) (iblk W c 1 t) := by
  obtain ⟨n, hn⟩ := t
  cases n with
  | zero => exact absurd (Nat.zero_mod _) h
  | succ n => exact if_neg h

/-- The accumulator, as the body is handed it. -/
abbrev scM : Memref sig .tc .vmem S2048x1024 .f32 := Memref.whole cc5_scratch0

/-- Before point `n`: the accumulator at what the point before left in it, the other scoped buffers and the generator at anything. -/
def Phi (c : Dev nD) : (n : ℕ) → n ≤ cfg5.N → sProp 𝕄
  | 0, _ => Pipeline.ΦA spec5 c
  | n + 1, hn => iprop(owns (c : Thread nD τ) scM fullShare (acc W c n hn) ∗ Pipeline.scopedRestBut spec5 c [cc5_scratch0] ∗ ∃ r, prngReg c r)

theorem PhiA_eq (c : Dev nD) : (Pipeline.ΦA spec5 c : sProp 𝕄)
    = iprop(((∃ d, owns (c : Thread nD τ) scM fullShare d) ∗ Pipeline.scopedRestBut spec5 c [cc5_scratch0]) ∗ ∃ r, prngReg c r) := by
  unfold Pipeline.ΦA; rw [scopedRest5_split]; simp only [scM, owns_whole]; try rfl

def dat (c : Dev nD) : Dat τ (Elt F) Unit ℕ (UR sig nD τ) ℕ cfg5 c where
  A w := W c (Pipeline.arrRef spec5 w)
  after w t := match w with
    | ⟨0, _⟩ => iblk W c 0 t
    | ⟨1, _⟩ => iblk W c 1 t
    | ⟨2, _⟩ => acc W c t.val t.isLt
  Φ t := Phi W c t.val (Nat.le_of_lt_succ t.isLt)
  q _ := fullShare
  owed _ := 0

theorem A_eq (c : Dev nD) (w : Fin cfg5.W) : (dat W c).A w = W c (Pipeline.arrRef spec5 w) := by dsimp only [dat]
theorem after_0 (c : Dev nD) (t : Fin cfg5.N) : (dat W c).after 0 t = iblk W c 0 t := by dsimp only [dat]
theorem after_1 (c : Dev nD) (t : Fin cfg5.N) : (dat W c).after 1 t = iblk W c 1 t := by dsimp only [dat]
theorem after_2 (c : Dev nD) (t : Fin cfg5.N) : (dat W c).after 2 t = acc W c t.val t.isLt := by dsimp only [dat]

theorem before_0 (c : Dev nD) (t : Fin cfg5.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg5.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

abbrev ms0 (t : Fin cfg5.N) : Memref sig .tc .vmem S2048x1024 .bf16 := win5_0.stage (cfg5.slots t 0)
abbrev ms1 (t : Fin cfg5.N) : Memref sig .tc .vmem S1024x1024 .f32 := win5_1.stage (cfg5.slots t 1)
abbrev ms2 (t : Fin cfg5.N) : Memref sig .tc .vmem S2048x1024 .f32 := win5_2.stage (cfg5.slots t 2)

/-- The accumulator before the body at point `t`, split off the invariant: at what the point before left, if there is one. -/
theorem Phi_open (c : Dev nD) (t : Fin cfg5.N) : (dat W c).Φ t.castSucc ⊢
    iprop(∃ d, ⌜t.val ≠ 0 → d = acc W c (t.val - 1) (Nat.lt_of_le_of_lt (Nat.sub_le _ _) t.isLt)⌝ ∗ owns (c : Thread nD τ) scM fullShare d
      ∗ Pipeline.scopedRestBut spec5 c [cc5_scratch0] ∗ ∃ r, prngReg c r) := by
  rw [show (dat W c).Φ t.castSucc = Phi W c t.val (Nat.le_of_lt t.isLt) from by dsimp only [dat]; exact Pipeline.Dat.Φ_castSucc (Phi W c) t]
  obtain ⟨n, hn⟩ := t
  cases n with
  | zero =>
    rw [show Phi W c (⟨0, hn⟩ : Fin cfg5.N).val (Nat.le_of_lt hn) = Pipeline.ΦA spec5 c from rfl, PhiA_eq]
    iintro ⟨⟨⟨%d, HS⟩, Hb⟩, Hg⟩
    iexists d
    isplitr; · ipureintro; exact fun h => absurd rfl h
    isplitl [HS]; · iexact HS
    isplitl [Hb]; · iexact Hb
    iexact Hg
  | succ n =>
    rw [show Phi W c (⟨n + 1, hn⟩ : Fin cfg5.N).val (Nat.le_of_lt hn) = iprop(owns (c : Thread nD τ) scM fullShare (acc W c n (Nat.lt_of_succ_lt hn)) ∗ Pipeline.scopedRestBut spec5 c [cc5_scratch0] ∗ ∃ r, prngReg c r) from rfl]
    iintro ⟨HS, Hb, Hg⟩
    iexists _
    isplitr; · ipureintro; exact fun _ => rfl
    isplitl [HS]; · iexact HS
    isplitl [Hb]; · iexact Hb
    iexact Hg

def bodyPre (c : Dev nD) (t : Fin cfg5.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d)))

def bodyPost (c : Dev nD) (t : Fin cfg5.N) : sProp 𝕄 :=
  iprop((dat W c).Φ t.succ ∗ (dat W c).owesAt () t.succ
    ∗ (dat W c).leavesExact 0 t ∗ (dat W c).leavesExact 1 t ∗ (dat W c).leavesExact 2 t)

set_option maxHeartbeats 4800000 in
theorem sound_body (c : Dev nD) (t : Fin cfg5.N) :
    bodyPre W c t ⊢ wp frame (wpE (defs₀ (F := F)) Variants.none c none) Set.univ (bodyAt5 t) (fun _ => bodyPost W c t) := by
  unfold bodyPre bodyPost bodyAt5
  simp only [before_0, before_1]
  rw [show (dat W c).owesAt () t.succ = (dat W c).owesAt () t.castSucc from rfl]
  rw [show (dat W c).Φ t.succ = iprop(owns (c : Thread nD τ) scM fullShare (acc W c t.val t.isLt) ∗ Pipeline.scopedRestBut spec5 c [cc5_scratch0] ∗ ∃ r, prngReg c r) from rfl]
  rw [show (dat W c).leavesExact 0 t = owns (c : Thread nD τ) (ms0 t) fullShare ((dat W c).after 0 t) from by
      unfold Dat.leavesExact; rw [show cfg5.idle 0 (grid5.coords t) = false from rfl], after_0]
  rw [show (dat W c).leavesExact 1 t = owns (c : Thread nD τ) (ms1 t) fullShare ((dat W c).after 1 t) from by
      unfold Dat.leavesExact; rw [show cfg5.idle 1 (grid5.coords t) = false from rfl], after_1]
  refine (sep_mono (Phi_open W c t) .rfl).trans ?_
  by_cases h0 : t.val % 4 = 0
  · rw [Dat.leavesExact_idle (dat W c) 2 t (idle_out t (by omega)) (keep_out t (by omega)), acc_first W c t h0]
    iintro ⟨⟨%ds, %hds, HS, Hb, Hg⟩, Ho, ⟨%d0, H0⟩, ⟨%d1, H1⟩, ⟨%d2, H2⟩⟩
    iapply (run_first c (grid5.coords t) _ _ _ _ _ _ _ _ (iblk W c 0 t) (iblk W c 1 t) _ _ ((first_iff t).mpr h0) (fun h => (later_iff t).mp h h0) (fun h => by have := (last_iff t).mp h; omega) Set.univ _)
    isplitl [H0]; · iexact H0
    isplitl [H1]; · iexact H1
    isplitl [H2]; · iexact H2
    isplitl [HS]; · iexact HS
    iintro ⟨H0, H1, H2, HS⟩
    isplitl [HS Hb Hg]
    · isplitl [HS]; · iexact HS
      isplitl [Hb]; · iexact Hb
      iexact Hg
    isplitl [Ho]; · iexact Ho
    isplitl [H0]; · iexact H0
    isplitl [H1]; · iexact H1
    iexists _; iexact H2
  · by_cases h3 : t.val % 4 = 3
    · rw [show (dat W c).leavesExact 2 t = owns (c : Thread nD τ) (ms2 t) fullShare ((dat W c).after 2 t) from by
        unfold Dat.leavesExact; rw [live_out t h3], after_2, acc_later W c t h0]
      iintro ⟨⟨%ds, %hds, HS, Hb, Hg⟩, Ho, ⟨%d0, H0⟩, ⟨%d1, H1⟩, ⟨%d2, H2⟩⟩
      obtain rfl := hds (fun h => h0 (by rw [h]))
      iapply (run_last c (grid5.coords t) _ _ _ _ _ _ _ _ (iblk W c 0 t) (iblk W c 1 t) _ _ (fun h => h0 ((first_iff t).mp h)) ((later_iff t).mpr h0) ((last_iff t).mpr h3) Set.univ _)
      isplitl [H0]; · iexact H0
      isplitl [H1]; · iexact H1
      isplitl [H2]; · iexact H2
      isplitl [HS]; · iexact HS
      iintro ⟨H0, H1, H2, HS⟩
      isplitl [HS Hb Hg]
      · isplitl [HS]; · iexact HS
        isplitl [Hb]; · iexact Hb
        iexact Hg
      isplitl [Ho]; · iexact Ho
      isplitl [H0]; · iexact H0
      isplitl [H1]; · iexact H1
      iexact H2
    · rw [Dat.leavesExact_idle (dat W c) 2 t (idle_out t h3) (keep_out t h3), acc_later W c t h0]
      iintro ⟨⟨%ds, %hds, HS, Hb, Hg⟩, Ho, ⟨%d0, H0⟩, ⟨%d1, H1⟩, ⟨%d2, H2⟩⟩
      obtain rfl := hds (fun h => h0 (by rw [h]))
      iapply (run_mid c (grid5.coords t) _ _ _ _ _ _ _ _ (iblk W c 0 t) (iblk W c 1 t) _ _ (fun h => h0 ((first_iff t).mp h)) ((later_iff t).mpr h0) (fun h => h3 ((last_iff t).mp h)) Set.univ _)
      isplitl [H0]; · iexact H0
      isplitl [H1]; · iexact H1
      isplitl [H2]; · iexact H2
      isplitl [HS]; · iexact HS
      iintro ⟨H0, H1, H2, HS⟩
      isplitl [HS Hb Hg]
      · isplitl [HS]; · iexact HS
        isplitl [Hb]; · iexact Hb
        iexact Hg
      isplitl [Ho]; · iexact Ho
      isplitl [H0]; · iexact H0
      isplitl [H1]; · iexact H1
      iexists _; iexact H2

/-- The body table's row for this region is its body at the point. -/
theorem row (t : Fin cfg5.N) : (defs₀ (F := F)) .tc cfg5.body (cfg5.bodyArgs t (cfg5.slots t)) = bodyAt5 t := by
  unfold defs₀; rw [Defs.onTc_tc]

/-- The body at every point, as the pipeline asks for it. -/
theorem body (c : Dev nD) : Pipeline.BodyObligation (dat W c) (defs₀ (F := F)) Variants.none () Set.univ :=
  fun t => by rw [bigSep_W5, bigSep_W5, row]; exact triple_restated (sound_body W c t) rfl .rfl fun _ => .rfl

theorem enter (c : Dev nD) : iprop(Pipeline.scopedRest spec5 c ∗ ∃ r, prngReg c r) ⊢ (dat W c).Φ 0 := BI.Entails.refl _

theorem leave (c : Dev nD) : (dat W c).Φ (Fin.last cfg5.N) ⊢ iprop(Pipeline.scopedRest spec5 c ∗ ∃ r, prngReg c r) := by
  show _ ⊢ Pipeline.ΦA spec5 c
  rw [PhiA_eq]
  have hN : cfg5.N = 15 + 1 := N_5
  rw [show (dat W c).Φ (Fin.last cfg5.N) = Phi W c cfg5.N le_rfl from rfl]
  have e : Phi W c cfg5.N le_rfl = Phi W c (15 + 1) (by rw [hN]) := by congr 1
  rw [e]
  unfold Phi
  iintro ⟨HS, Hb, Hg⟩
  isplitl [HS Hb]
  · isplitl [HS]; · iexists _; iexact HS
    iexact Hb
  iexact Hg

end Cert.KernelIdeal.R5

end
-- ==== Proof.KernelIdeal.Whole.lean ====
/- The whole kernel: its six regions and two host stretches in order, the contents of every buffer
   between them, and the run of @main that leaves every unscoped buffer at the last contents. -/
module

public import proofs.«01_k».proof.Proof.Gen.KernelIdeal.Regions
public import proofs.«01_k».proof.Proof.KernelIdeal.R0
public import proofs.«01_k».proof.Proof.KernelIdeal.R1
public import proofs.«01_k».proof.Proof.KernelIdeal.R2
public import proofs.«01_k».proof.Proof.KernelIdeal.R3
public import proofs.«01_k».proof.Proof.KernelIdeal.R4
public import proofs.«01_k».proof.Proof.KernelIdeal.R5
public import Idealize.ShloMosaic.Lib.Pipeline.RegionArraysS

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The buffers between the items -/

/-- After the first host stretch. -/
def W1 (c : Dev nD) : Valuation τ sig (Elt F) := StableHlo.after hostOps0 (V0 m c)
/-- After region 0, the tables. -/
def W2 (c : Dev nD) : Valuation τ sig (Elt F) := Pipeline.afterRegion (R0.dat (W1 m) c) (W1 m c)
/-- After region 1, the rotated queries. -/
def W3 (c : Dev nD) : Valuation τ sig (Elt F) := Pipeline.afterRegion (R1.dat (W2 m) c) (W2 m c)
/-- After region 2, the rotated keys and the values. -/
def W4 (c : Dev nD) : Valuation τ sig (Elt F) := Pipeline.afterRegion (R2.dat (W3 m) c) (W3 m c)
/-- After region 3, the Hadamard transform. -/
def W5 (c : Dev nD) : Valuation τ sig (Elt F) := Pipeline.afterRegion (R3.dat (W4 m) c) (W4 m c)
/-- After region 4, attention. -/
def W6 (c : Dev nD) : Valuation τ sig (Elt F) := Pipeline.afterRegion (R4.dat (W5 m) c) (W5 m c)
/-- After region 5, the output projection. -/
def W7 (c : Dev nD) : Valuation τ sig (Elt F) := Pipeline.afterRegion (R5.dat (W6 m) c) (W6 m c)
/-- After the last host stretch. -/
def W8 (c : Dev nD) : Valuation τ sig (Elt F) := StableHlo.after hostOps6 (W7 m c)

/-! ## What the items leave as it was -/

theorem W1_of (c : Dev nD) (r : Ref sig .tc) (h : r ∉ hostOps0_W) : W1 m c r = V0 m c r :=
  StableHlo.after_of_writes_sub hostOps0 _ hostOps0_writes h
theorem W2_of (c : Dev nD) (r : Ref sig .tc) (h : ∀ w, Pipeline.arrRef spec0 w = r → (cfg0.win w).isOut = false) : W2 m c r = W1 m c r :=
  Pipeline.afterRegion_keeps (R0.dat (W1 m) c) (W1 m c) launch0.win.arr_inj (R0.A_eq (W1 m) c) r h
theorem W3_of (c : Dev nD) (r : Ref sig .tc) (h : ∀ w, Pipeline.arrRef spec1 w = r → (cfg1.win w).isOut = false) : W3 m c r = W2 m c r :=
  Pipeline.afterRegion_keeps (R1.dat (W2 m) c) (W2 m c) launch1.win.arr_inj (R1.A_eq (W2 m) c) r h
theorem W4_of (c : Dev nD) (r : Ref sig .tc) (h : ∀ w, Pipeline.arrRef spec2 w = r → (cfg2.win w).isOut = false) : W4 m c r = W3 m c r :=
  Pipeline.afterRegion_keeps (R2.dat (W3 m) c) (W3 m c) launch2.win.arr_inj (R2.A_eq (W3 m) c) r h
theorem W5_of (c : Dev nD) (r : Ref sig .tc) (h : ∀ w, Pipeline.arrRef spec3 w = r → (cfg3.win w).isOut = false) : W5 m c r = W4 m c r :=
  Pipeline.afterRegion_keeps (R3.dat (W4 m) c) (W4 m c) launch3.win.arr_inj (R3.A_eq (W4 m) c) r h
theorem W6_of (c : Dev nD) (r : Ref sig .tc) (h : ∀ w, Pipeline.arrRef spec4 w = r → (cfg4.win w).isOut = false) : W6 m c r = W5 m c r :=
  Pipeline.afterRegion_keeps (R4.dat (W5 m) c) (W5 m c) launch4.win.arr_inj (R4.A_eq (W5 m) c) r h
theorem W7_of (c : Dev nD) (r : Ref sig .tc) (h : ∀ w, Pipeline.arrRef spec5 w = r → (cfg5.win w).isOut = false) : W7 m c r = W6 m c r :=
  Pipeline.afterRegion_keeps (R5.dat (W6 m) c) (W6 m c) launch5.win.arr_inj (R5.A_eq (W6 m) c) r h
theorem W8_of (c : Dev nD) (r : Ref sig .tc) (h : r ∉ hostOps6_W) : W8 m c r = W7 m c r :=
  StableHlo.after_of_writes_sub hostOps6 _ hostOps6_writes h

/-- No region's output window is on the array `r`. -/
def Kept (r : Ref sig .tc) : Prop :=
  r ∉ hostOps0_W ∧ (∀ w, Pipeline.arrRef spec0 w = r → (cfg0.win w).isOut = false) ∧ (∀ w, Pipeline.arrRef spec1 w = r → (cfg1.win w).isOut = false)
    ∧ (∀ w, Pipeline.arrRef spec2 w = r → (cfg2.win w).isOut = false) ∧ (∀ w, Pipeline.arrRef spec3 w = r → (cfg3.win w).isOut = false)
    ∧ (∀ w, Pipeline.arrRef spec4 w = r → (cfg4.win w).isOut = false) ∧ (∀ w, Pipeline.arrRef spec5 w = r → (cfg5.win w).isOut = false) ∧ r ∉ hostOps6_W

instance (r : Ref sig .tc) : Decidable (Kept r) := by unfold Kept; infer_instance

/-- A buffer nothing writes reaches the end as launched. -/
theorem W8_kept (c : Dev nD) (r : Ref sig .tc) (h : Kept r) : W8 m c r = m ((c : Thread nD τ).loc r) :=
  (W8_of m c r h.2.2.2.2.2.2.2).trans <| (W7_of m c r h.2.2.2.2.2.2.1).trans <| (W6_of m c r h.2.2.2.2.2.1).trans <| (W5_of m c r h.2.2.2.2.1).trans <|
    (W4_of m c r h.2.2.2.1).trans <| (W3_of m c r h.2.2.1).trans <| (W2_of m c r h.2.1).trans <| (W1_of m c r h.1).trans rfl

/-! ## The items as segments -/

/-- Each region's proof data, at the contents the region finds. -/
def pdats : (p : Fin 6) → (c : Dev nD) → Dat τ (Elt F) Unit ℕ (UR sig nD τ) ℕ (cfgs p) c
  | ⟨0, _⟩ => R0.dat (W1 m)
  | ⟨1, _⟩ => R1.dat (W2 m)
  | ⟨2, _⟩ => R2.dat (W3 m)
  | ⟨3, _⟩ => R3.dat (W4 m)
  | ⟨4, _⟩ => R4.dat (W5 m)
  | ⟨5, _⟩ => R5.dat (W6 m)

/-- The transfers' cells are the TensorCores'. -/
def L (g : GSem nD τ sig) : Finset Unit := if g.1.2 = .tc then {()} else ∅
/-- One level for all. -/
def lv (_ : GSem nD τ sig) (_ : Unit) : ℕ := 0

theorem hL (g : GSem nD τ sig) (h : g.1.2 ≠ .tc) : L g = ∅ := if_neg h

/-- What rides along between the items: nothing owed, and the generator's register. -/
def E (_ : Fin 7) (c : Dev nD) : sProp 𝕄 :=
  iprop((∃ Wd, owes (c : Thread nD τ) (0 : CellTallies nD τ sig Unit) Wd) ∗ (∃ r, prngReg c r) ∗ emp)

theorem cut (p : Fin 6) : Pipeline.LevelCut (pcfgs (F := F)) adm () L lv p (fun _ => (0 : CellTallies nD τ sig Unit)) (fun _ => (0 : ℕ)) where
  hι _ _ _ := by unfold L; rw [if_pos rfl]; exact Finset.mem_singleton.mpr rfl
  hιb _ _ _ := le_rfl
  hD _ _ _ h := absurd h (lt_irrefl _)

/-- A region as a segment: entered with every unscoped buffer held at `W`. -/
def region (p : Fin 6) (kit : Pipeline.LaunchFacts (nD := nD) (τ := τ) cfgs p)
    (hbody : ∀ c, Pipeline.BodyObligationLoose (pdats m p c) (defs₀ (F := F)) Variants.none () Set.univ)
    (howed : ∀ c t, (pdats m p c).owed t = 0) (hrec : ∀ c, (pdats m p c).recorded 0 = Set.univ) (hq : ∀ c w, (pdats m p c).share w = fullShare)
    (hin : ∀ c, iprop(Pipeline.scopedRest (cfgs p).spec c ∗ ∃ r, prngReg c r) ⊢ (pdats m p c).Φ 0)
    (hout : ∀ c, (pdats m p c).Φ (Fin.last (cfgs p).N) ⊢ iprop(Pipeline.scopedRest (cfgs p).spec c ∗ ∃ r, prngReg c r))
    (W : Dev nD → Valuation τ sig (Elt F)) (hW : ∀ c w, (pdats m p c).arrAt w 0 = W c (Proc.devRef .tc (Pipeline.arrRef (cfgs p).spec w))) :
    RegionSeg (pcfgs (F := F)) adm (pdats m) () defs₀ Variants.none L lv p :=
  RegionSeg.ofHeldIn (pcfgs (F := F)) adm (pdats m) () defs₀ Variants.none L lv p (fun _ => 0) (Pipeline.ucRefs τ sig)
    (fun c => iprop(∃ r, prngReg c r)) (fun c => iprop(∃ r, prngReg c r)) kit.toP rfl hbody howed hrec hq hin hout (fun _ => 0) (cut p) (fun _ => BI.emp) W hW

/-- A region's segment is entered from every unscoped buffer held at `W`, and what rides along. -/
theorem region_pre {p : Fin 6} {kit hbody howed hrec hq hin hout W hW} (hS : Pipeline.arrRefs (τ := τ) (pcfgs (F := F) p).spec ⊆ Pipeline.ucRefs τ sig) (n : Fin 7) (c : Dev nD) :
    iprop(StableHlo.held (c : Thread nD τ) (Pipeline.ucRefs τ sig) (W c) ∗ E n c) ⊢ (region m p kit hbody howed hrec hq hin hout W hW).pre c := by
  unfold region E
  exact RegionSeg.ofHeldIn_pre (pcs := pcfgs (F := F)) (a := adm) (pdats := pdats m) (ι := ()) (defs₀ := defs₀) (𝒱₀ := Variants.none) (L := L) (lv := lv) (p := p)
    (D := fun _ => 0) (X := fun c => iprop(∃ r, prngReg c r)) (Y := fun c => iprop(∃ r, prngReg c r)) (R := fun _ => BI.emp) (W := W) (hW := hW) (kit := kit.toP) (hK := rfl)
    (hbody := hbody) (howed := howed) (hrec := hrec) (hshare := hq) (hin := hin) (hout := hout) (b := fun _ => 0) (hcut := cut p) hS c

/-- It is left with them at what the region makes of `W`. -/
theorem region_post {p : Fin 6} {kit hbody howed hrec hq hin hout W hW} (hS : Pipeline.arrRefs (τ := τ) (pcfgs (F := F) p).spec ⊆ Pipeline.ucRefs τ sig) (n : Fin 7) (c : Dev nD) :
    (region m p kit hbody howed hrec hq hin hout W hW).post c ⊢ iprop(StableHlo.held (c : Thread nD τ) (Pipeline.ucRefs τ sig) (Pipeline.afterRegion (pdats m p c) (W c)) ∗ E n c) := by
  unfold region E
  exact RegionSeg.ofHeldIn_post hS c

def seg0 : RegionSeg (pcfgs (F := F)) adm (pdats m) () defs₀ Variants.none L lv 0 :=
  region m 0 launch0 (fun c => (R0.body (W1 m) c).loose) (fun _ _ => rfl) (fun _ => rfl) (fun c => (R0.dat (W1 m) c).share_full fun _ => rfl)
    (R0.enter (W1 m)) (R0.leave (W1 m)) (W1 m) (fun c w => R0.A_eq (W1 m) c w)
theorem unscoped0 : ∀ w, (Pipeline.arrRef spec0 w).isScoped = false := by decide
theorem sub0 : Pipeline.arrRefs (τ := τ) (pcfgs (F := F) 0).spec ⊆ Pipeline.ucRefs τ sig := Pipeline.arrRefs_sub_ucRefs spec0 unscoped0
theorem pre0 (c : Dev nD) : iprop(StableHlo.held (c : Thread nD τ) (Pipeline.ucRefs τ sig) (W1 m c) ∗ E 0 c) ⊢ (seg0 m).pre c := by
  unfold seg0; exact region_pre m sub0 0 c
theorem post0 (c : Dev nD) : (seg0 m).post c ⊢ iprop(StableHlo.held (c : Thread nD τ) (Pipeline.ucRefs τ sig) (W2 m c) ∗ E 1 c) := by
  unfold seg0 W2; exact region_post m sub0 1 c

def seg1 : RegionSeg (pcfgs (F := F)) adm (pdats m) () defs₀ Variants.none L lv 1 :=
  region m 1 launch1 (fun c => (R1.body (W2 m) c).loose) (fun _ _ => rfl) (fun _ => rfl) (fun c => (R1.dat (W2 m) c).share_full fun _ => rfl)
    (R1.enter (W2 m)) (R1.leave (W2 m)) (W2 m) (fun c w => R1.A_eq (W2 m) c w)
theorem unscoped1 : ∀ w, (Pipeline.arrRef spec1 w).isScoped = false := by decide
theorem sub1 : Pipeline.arrRefs (τ := τ) (pcfgs (F := F) 1).spec ⊆ Pipeline.ucRefs τ sig := Pipeline.arrRefs_sub_ucRefs spec1 unscoped1
theorem pre1 (c : Dev nD) : iprop(StableHlo.held (c : Thread nD τ) (Pipeline.ucRefs τ sig) (W2 m c) ∗ E 1 c) ⊢ (seg1 m).pre c := by
  unfold seg1; exact region_pre m sub1 1 c
theorem post1 (c : Dev nD) : (seg1 m).post c ⊢ iprop(StableHlo.held (c : Thread nD τ) (Pipeline.ucRefs τ sig) (W3 m c) ∗ E 2 c) := by
  unfold seg1 W3; exact region_post m sub1 2 c

def seg2 : RegionSeg (pcfgs (F := F)) adm (pdats m) () defs₀ Variants.none L lv 2 :=
  region m 2 launch2 (fun c => (R2.body (W3 m) c).loose) (fun _ _ => rfl) (fun _ => rfl) (fun c => (R2.dat (W3 m) c).share_full fun _ => rfl)
    (R2.enter (W3 m)) (R2.leave (W3 m)) (W3 m) (fun c w => R2.A_eq (W3 m) c w)
theorem unscoped2 : ∀ w, (Pipeline.arrRef spec2 w).isScoped = false := by decide
theorem sub2 : Pipeline.arrRefs (τ := τ) (pcfgs (F := F) 2).spec ⊆ Pipeline.ucRefs τ sig := Pipeline.arrRefs_sub_ucRefs spec2 unscoped2
theorem pre2 (c : Dev nD) : iprop(StableHlo.held (c : Thread nD τ) (Pipeline.ucRefs τ sig) (W3 m c) ∗ E 2 c) ⊢ (seg2 m).pre c := by
  unfold seg2; exact region_pre m sub2 2 c
theorem post2 (c : Dev nD) : (seg2 m).post c ⊢ iprop(StableHlo.held (c : Thread nD τ) (Pipeline.ucRefs τ sig) (W4 m c) ∗ E 3 c) := by
  unfold seg2 W4; exact region_post m sub2 3 c

def seg3 : RegionSeg (pcfgs (F := F)) adm (pdats m) () defs₀ Variants.none L lv 3 :=
  region m 3 launch3 (fun c => (R3.body (W4 m) c).loose) (fun _ _ => rfl) (fun _ => rfl) (fun c => (R3.dat (W4 m) c).share_full fun _ => rfl)
    (R3.enter (W4 m)) (R3.leave (W4 m)) (W4 m) (fun c w => R3.A_eq (W4 m) c w)
theorem unscoped3 : ∀ w, (Pipeline.arrRef spec3 w).isScoped = false := by decide
theorem sub3 : Pipeline.arrRefs (τ := τ) (pcfgs (F := F) 3).spec ⊆ Pipeline.ucRefs τ sig := Pipeline.arrRefs_sub_ucRefs spec3 unscoped3
theorem pre3 (c : Dev nD) : iprop(StableHlo.held (c : Thread nD τ) (Pipeline.ucRefs τ sig) (W4 m c) ∗ E 3 c) ⊢ (seg3 m).pre c := by
  unfold seg3; exact region_pre m sub3 3 c
theorem post3 (c : Dev nD) : (seg3 m).post c ⊢ iprop(StableHlo.held (c : Thread nD τ) (Pipeline.ucRefs τ sig) (W5 m c) ∗ E 4 c) := by
  unfold seg3 W5; exact region_post m sub3 4 c

def seg4 : RegionSeg (pcfgs (F := F)) adm (pdats m) () defs₀ Variants.none L lv 4 :=
  region m 4 launch4 (fun c => (R4.body (W5 m) c).loose) (fun _ _ => rfl) (fun _ => rfl) (fun c => (R4.dat (W5 m) c).share_full fun _ => rfl)
    (R4.enter (W5 m)) (R4.leave (W5 m)) (W5 m) (fun c w => R4.A_eq (W5 m) c w)
theorem unscoped4 : ∀ w, (Pipeline.arrRef spec4 w).isScoped = false := by decide
theorem sub4 : Pipeline.arrRefs (τ := τ) (pcfgs (F := F) 4).spec ⊆ Pipeline.ucRefs τ sig := Pipeline.arrRefs_sub_ucRefs spec4 unscoped4
theorem pre4 (c : Dev nD) : iprop(StableHlo.held (c : Thread nD τ) (Pipeline.ucRefs τ sig) (W5 m c) ∗ E 4 c) ⊢ (seg4 m).pre c := by
  unfold seg4; exact region_pre m sub4 4 c
theorem post4 (c : Dev nD) : (seg4 m).post c ⊢ iprop(StableHlo.held (c : Thread nD τ) (Pipeline.ucRefs τ sig) (W6 m c) ∗ E 5 c) := by
  unfold seg4 W6; exact region_post m sub4 5 c

def seg5 : RegionSeg (pcfgs (F := F)) adm (pdats m) () defs₀ Variants.none L lv 5 :=
  region m 5 launch5 (fun c => (R5.body (W6 m) c).loose) (fun _ _ => rfl) (fun _ => rfl) (fun c => (R5.dat (W6 m) c).share_full fun _ => rfl)
    (R5.enter (W6 m)) (R5.leave (W6 m)) (W6 m) (fun c w => R5.A_eq (W6 m) c w)
theorem unscoped5 : ∀ w, (Pipeline.arrRef spec5 w).isScoped = false := by decide
theorem sub5 : Pipeline.arrRefs (τ := τ) (pcfgs (F := F) 5).spec ⊆ Pipeline.ucRefs τ sig := Pipeline.arrRefs_sub_ucRefs spec5 unscoped5
theorem pre5 (c : Dev nD) : iprop(StableHlo.held (c : Thread nD τ) (Pipeline.ucRefs τ sig) (W6 m c) ∗ E 5 c) ⊢ (seg5 m).pre c := by
  unfold seg5; exact region_pre m sub5 5 c
theorem post5 (c : Dev nD) : (seg5 m).post c ⊢ iprop(StableHlo.held (c : Thread nD τ) (Pipeline.ucRefs τ sig) (W7 m c) ∗ E 6 c) := by
  unfold seg5 W7; exact region_post m sub5 6 c

/-- The host stretches as segments. -/
def head : HostSeg (Ix := Unit) (Name := ℕ) (U := UR sig nD τ) (Lvl := ℕ) (pcfgs (F := F)) defs₀ Variants.none L lv :=
  HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (V0 m) (E 0)
def tail : HostSeg (Ix := Unit) (Name := ℕ) (U := UR sig nD τ) (Lvl := ℕ) (pcfgs (F := F)) defs₀ Variants.none L lv :=
  HostSeg.ofOps _ _ _ _ _ (Pipeline.ucRefs τ sig) hostOps6 (fun op h => Pipeline.sub_ucRefs op ((List.forall_iff_forall_mem.mp hostOps6_sub) op h))
    (fun op h => (List.forall_iff_forall_mem.mp hostOps6_fresh) op h) (W7 m) (E 6)

/-- @main's items in order. -/
def items : List (Seg (pcfgs (F := F)) adm (pdats m) () defs₀ Variants.none L lv) :=
  [.host (head m), .region (seg0 m), .region (seg1 m), .region (seg2 m), .region (seg3 m), .region (seg4 m), .region (seg5 m), .host (tail m)]

theorem items_prog : (items m).map Seg.prog = [
    StableHlo.seq hostOps0, Prog.lift (.customCall (Pipeline.entry 0) ()), Prog.lift (.customCall (Pipeline.entry 1) ()),
    Prog.lift (.customCall (Pipeline.entry 2) ()), Prog.lift (.customCall (Pipeline.entry 3) ()), Prog.lift (.customCall (Pipeline.entry 4) ()),
    Prog.lift (.customCall (Pipeline.entry 5) ()), StableHlo.seq hostOps6] := rfl

theorem launch_rest_one (ρ : Dev nD → PrngReg) (c : Dev nD) :
    (iprop(unscopedSems0 c ∗ owes (c : Thread nD τ) (0 : CellTallies nD τ sig Unit) ∅ ∗ Pipeline.launchCred (fun _ => 0) c ∗ prngReg c (ρ c) ∗ BI.emp) : sProp 𝕄)
      ⊢ E 0 c := by
  unfold E
  iintro ⟨Hs, Ho, Hc, Hp, -⟩
  isplitl [Ho]; · iexists _; iexact Ho
  isplitl [Hp]; · iexists _; iexact Hp
  iempintro

/-- What the launch hands a core makes what rides along before the first item. -/
theorem launch_rest (ρ : Dev nD → PrngReg) :
    (bigSep Finset.univ fun c : Dev nD => iprop(unscopedSems0 c ∗ owes (c : Thread nD τ) (0 : CellTallies nD τ sig Unit) ∅ ∗ Pipeline.launchCred (fun _ => 0) c ∗ prngReg c (ρ c) ∗ BI.emp) : sProp 𝕄)
      ⊢ bigSep Finset.univ (E 0) :=
  bigSep_mono fun c _ => launch_rest_one ρ c

theorem merge (P Q : Dev nD → sProp 𝕄) : iprop(bigSep Finset.univ P ∗ bigSep Finset.univ Q) ⊢ bigSep Finset.univ fun c => iprop(P c ∗ Q c) := by
  rw [bigSep_sep']

set_option backward.isDefEq.respectTransparency.types false in
/-- From any memory with zero counters, every weakly fair execution of @main terminates, and every final state has every
    unscoped buffer at `W8` and every counter at zero. -/
theorem run_whole (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = W8 m c b) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain, items_prog m]
      dsimp (config := { failIfUnchanged := false }) only
      exact .rfl)
    (fun c => by simp only [items, Seg.pipes_host, Seg.pipes_region, Seg.pipes_nil]; decide) (fun _ => 0) hL (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (W8 m c))
    (hch := fun c => ⟨.rfl, pre0 m c, (post0 m c).trans (pre1 m c), (post1 m c).trans (pre2 m c), (post2 m c).trans (pre3 m c),
      (post3 m c).trans (pre4 m c), (post4 m c).trans (pre5 m c), post5 m c, sep_mono .rfl (by unfold E; iintro ⟨Ho, -, -⟩; iexact Ho)⟩)
    (hinit := ?_) (QY := fun c s => ∀ b : Ref sig .tc, b.isScoped = false → s.mem ((c.tc : Thread nD τ).loc b) = W8 m c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ BI.emp)) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, -⟩
    ihave H' := hsplit $$ H
    icases H' with ⟨Hh, Hr⟩
    imodintro
    iapply (merge (fun c => StableHlo.held (c : Thread nD τ) (Pipeline.ucRefs τ sig) (V0 m c)) (E 0))
    isplitl [Hh]; · iexact Hh
    iapply (launch_rest ρ); iexact Hr
  · unfold StableHlo.held
    iintro ⟨Hh, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [Proc.isScoped_devRef]; simp [hb]⟩)
    · iexact HSI

/-- The six arguments reach the end as launched. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c main_arg0 rfl).trans (W8_kept m c _ (by decide)), (h.1 c main_arg1 rfl).trans (W8_kept m c _ (by decide)),
    (h.1 c main_arg2 rfl).trans (W8_kept m c _ (by decide)), (h.1 c main_arg3 rfl).trans (W8_kept m c _ (by decide)),
    (h.1 c main_arg4 rfl).trans (W8_kept m c _ (by decide)), (h.1 c main_arg5 rfl).trans (W8_kept m c _ (by decide))⟩, h.2⟩) (run_whole m ρ)

end Cert.KernelIdeal.Whole

end
-- ==== Proof.KernelIdeal.V0.lean ====
/- The values region 0 leaves: the hidden states unchanged and the tables of rotations, over the extended reals. -/
module

public import proofs.«01_k».proof.Proof.KernelIdeal.R0
public import Idealize.ShloMosaic.Lib.Pointwise
public import Idealize.ShloMosaic.Lib.Pipeline.ValueKit

@[expose] public section

set_option maxRecDepth 16384

noncomputable section

namespace Cert.KernelIdeal.V0

open Cert.KernelIdeal Cert.KernelIdeal.Gen Cert.KernelIdeal.R0
open Idealize.ShloMosaic Idealize.ShloMosaic.TcCoe Idealize.SL.Sem
open Idealize.ShloMosaic.Pipeline (Dat)

/-- The angle of position `i 0` at lane `i 1`. -/
def ang (fr : S1x128.Idx → EReal) (i : S2048x128.Idx) : EReal := (((i 0).val : ℝ) : EReal) * fr (ix2 0 (i 1))

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ (grid0.coords t 0).val = t.val := by decide +kernel

/-- The position of a row of a block, read back from its 32-bit word. -/
theorem pos_toInt (a b : ℕ) (ha : a < 4) (hb : b < 512) :
    (IntOp.addi (Scalar.muli (BitVec.ofNat 32 a) 512#32) (BitVec.ofNat 32 b)).toInt = ((a * 512 + b : ℕ) : ℤ) := by
  have h : IntOp.addi (Scalar.muli (BitVec.ofNat 32 a) 512#32) (BitVec.ofNat 32 b) = BitVec.ofNat 32 (a * 512 + b) := by
    show BitVec.ofNat 32 a * BitVec.ofNat 32 512 + BitVec.ofNat 32 b = _
    rw [← BitVec.ofNat_mul, ← BitVec.ofNat_add]
  rw [h, BitVec.toInt_eq_toNat_of_lt] <;> rw [BitVec.toNat_ofNat, Nat.mod_eq_of_lt (by omega)]
  omega

/-- The angle payload at an index. -/
theorem pay2_apply (i : grid0.Coords) (x : Vec Ideal S1x128 .f32) (j : S512x128.Idx) :
    k0_pay2 (F := Ideal) i x j = ((((i 0).val * 512 + (j 0).val : ℕ) : ℝ) : EReal) * x (ix2 0 (j 1)) := by
  unfold k0_pay2
  idx_vars j
  pointwise
  congr 1
  show (((IntOp.addi (Scalar.muli (BitVec.ofNat 32 (i 0).val) 512#32) (BitVec.ofNat 32 j0.val)).toInt : ℝ) : EReal) = _
  rw [pos_toInt _ _ (i 0).isLt j0.isLt]
  push_cast
  rfl

/-- The factor of the queries' tables. -/
def qs : EReal := (((Real.log 2)⁻¹ * (Real.sqrt 128)⁻¹ : ℝ) : EReal)

theorem named_qs : (Named.named κ "qscale" 0x3E0293EE#32 : Ideal .f32) = qs :=
  IdealRules.named_const.ideal_named_scalar _ _ _ _ rfl

def cosT (fr : S1x128.Idx → EReal) (i : S2048x128.Idx) : EReal := Ideal.cos (ang fr i)
def sinT (fr sg : S1x128.Idx → EReal) (i : S2048x128.Idx) : EReal := sg (ix2 0 (i 1)) * Ideal.sin (ang fr i)
def cosQ (fr : S1x128.Idx → EReal) (i : S2048x128.Idx) : EReal := cosT fr i * qs
def sinQ (fr sg : S1x128.Idx → EReal) (i : S2048x128.Idx) : EReal := sinT fr sg i * qs

variable (W : Dev nD → Valuation τ sig (Elt Ideal))

/-- The rounded copy of the hidden states is, over the extended reals, the hidden states. -/
theorem xb (c : Dev nD) : (dat W c).arrAt 3 cfg0.N = (W c main_v0 : S2048x4096.Idx → EReal) := by
  refine (dat W c).arrAt_eq_of_covers 3 _ (by decide +kernel) fun t hf y => ?_
  have hN : t.val < 4 := lt_of_lt_of_eq t.isLt N_0
  rw [after_3]
  obtain ⟨i0, i1, i2, i3, i4, i5, i6, i7, ic⟩ := idx t
  unfold k0_pay1
  pointwise
  blk_ext [iblk, i0, i3]

/-- The block of frequencies is the whole row. -/
theorem fr_blk (c : Dev nD) (t : Fin cfg0.N) : iblk W c 1 t = (W c main_cst : S1x128.Idx → EReal) := by
  obtain ⟨i0, i1, i2, i3, i4, i5, i6, i7, ic⟩ := idx t
  funext y
  blk_ext [iblk, i1]

/-- The block of signs is the whole row. -/
theorem sg_blk (c : Dev nD) (t : Fin cfg0.N) : iblk W c 2 t = (W c main_cst_0 : S1x128.Idx → EReal) := by
  obtain ⟨i0, i1, i2, i3, i4, i5, i6, i7, ic⟩ := idx t
  funext y
  blk_ext [iblk, i2]

/-- The angles of a block are those of its rows of the array. -/
theorem blk_ang (fr : S1x128.Idx → EReal) (t : Fin cfg0.N) (j : S512x128.Idx) (i : S2048x128.Idx)
    (h0 : (i 0).val = t.val * 512 + (j 0).val) (h1 : (i 1).val = (j 1).val) :
    k0_pay2 (F := Ideal) (grid0.coords t) fr j = ang fr i := by
  obtain ⟨i0, i1, i2, i3, i4, i5, i6, i7, ic⟩ := idx t
  rw [pay2_apply, ic]
  unfold ang
  rw [h0]
  congr 3
  exact Fin.ext h1.symm

/-- The table of cosines. -/
theorem cos_tab (c : Dev nD) : (dat W c).arrAt 4 cfg0.N = cosT (W c main_cst) := by
  refine (dat W c).arrAt_eq_of_covers 4 _ (by decide +kernel) fun t hf y => ?_
  have hN : t.val < 4 := lt_of_lt_of_eq t.isLt N_0
  rw [after_4, fr_blk]
  obtain ⟨i0, i1, i2, i3, i4, i5, i6, i7, ic⟩ := idx t
  refine congrArg Ideal.cos (blk_ang _ t _ _ ?_ ?_)
  · blk_simp [i4]
  · blk_simp [i4]

/-- The table of signed sines. -/
theorem sin_tab (c : Dev nD) : (dat W c).arrAt 5 cfg0.N = sinT (W c main_cst) (W c main_cst_0) := by
  refine (dat W c).arrAt_eq_of_covers 5 _ (by decide +kernel) fun t hf y => ?_
  have hN : t.val < 4 := lt_of_lt_of_eq t.isLt N_0
  rw [after_5, fr_blk, sg_blk]
  obtain ⟨i0, i1, i2, i3, i4, i5, i6, i7, ic⟩ := idx t
  unfold k0_pay4 sinT
  pointwise
  refine congrArg₂ (fun a b : EReal => a * b) ?_ (congrArg Ideal.sin (blk_ang _ t _ _ ?_ ?_))
  · blk_ext [i5]
  · blk_simp [i5]
  · blk_simp [i5]

/-- The scaled table of cosines. -/
theorem cosq_tab (c : Dev nD) : (dat W c).arrAt 6 cfg0.N = cosQ (W c main_cst) := by
  refine (dat W c).arrAt_eq_of_covers 6 _ (by decide +kernel) fun t hf y => ?_
  have hN : t.val < 4 := lt_of_lt_of_eq t.isLt N_0
  rw [after_6, fr_blk]
  obtain ⟨i0, i1, i2, i3, i4, i5, i6, i7, ic⟩ := idx t
  refine congrArg₂ (fun a b : EReal => a * b) (congrArg Ideal.cos (blk_ang _ t _ _ ?_ ?_)) named_qs
  · blk_simp [i6]
  · blk_simp [i6]

/-- The scaled table of signed sines. -/
theorem sinq_tab (c : Dev nD) : (dat W c).arrAt 7 cfg0.N = sinQ (W c main_cst) (W c main_cst_0) := by
  refine (dat W c).arrAt_eq_of_covers 7 _ (by decide +kernel) fun t hf y => ?_
  have hN : t.val < 4 := lt_of_lt_of_eq t.isLt N_0
  rw [after_7, fr_blk, sg_blk]
  obtain ⟨i0, i1, i2, i3, i4, i5, i6, i7, ic⟩ := idx t
  unfold k0_pay6 k0_pay4 sinQ sinT
  pointwise
  refine congrArg₂ (fun a b : EReal => a * b) (congrArg₂ (fun a b : EReal => a * b) ?_ (congrArg Ideal.sin (blk_ang _ t _ _ ?_ ?_))) named_qs
  · blk_ext [i7]
  · blk_simp [i7]
  · blk_simp [i7]

end Cert.KernelIdeal.V0

end
-- ==== Proof.KernelIdeal.Spec.lean ====
/- The functions the regions compute, over the extended reals: products of rows, and rotations of heads. -/
module

public import proofs.«01_k».proof.Proof.Gen.KernelIdeal.Launch
public import Idealize.ShloMosaic.Lib.Pointwise
public import Idealize.ShloMosaic.Lib.Pipeline.ValueKit

@[expose] public section

set_option maxRecDepth 16384

noncomputable section

namespace Cert.KernelIdeal.Spec

open Cert.KernelIdeal Cert.KernelIdeal.Gen
open Idealize.ShloMosaic Idealize.ShloMosaic.TcCoe Idealize.SL.Sem
open Idealize.ShloMosaic.Pipeline (Dat)

/-- A pair of coordinates is an index when they are its coordinates. -/
theorem ix2_eq {a b : ℕ} {p : Fin a} {q : Fin b} {y : (⟨2, ![a, b]⟩ : Shape).Idx} (h0 : p.val = (y 0).val) (h1 : q.val = (y 1).val) :
    (ix2 p q : (⟨2, ![a, b]⟩ : Shape).Idx) = y := by
  funext d
  match d with
  | 0 => exact Fin.ext h0
  | 1 => exact Fin.ext h1

/-- Row `i 0` of the hidden states against row `i 1` of a square weight matrix. -/
def dot4 (x : S2048x4096.Idx → EReal) (w : S4096x4096.Idx → EReal) (i : S2048x4096.Idx) : EReal :=
  ∑ k : Fin 4096, x (ix2 (i 0) k) * w (ix2 (i 1) k)

/-- Row `i 0` of the hidden states against row `i 1` of a key or value weight matrix. -/
def dot1 (x : S2048x4096.Idx → EReal) (w : S1024x4096.Idx → EReal) (i : S2048x1024.Idx) : EReal :=
  ∑ k : Fin 4096, x (ix2 (i 0) k) * w (ix2 (i 1) k)

/-- The lane of a head half a head further on, round the end. -/
def far (d : Fin 128) : Fin 128 := ⟨(d.val + 64) % 128, by omega⟩

/-- The lane of a column in its head. -/
def lane (d : Fin 1024) : Fin 128 := ⟨d.val % 128, by omega⟩

/-- The column half a head further on in the same head. -/
def swap (d : Fin 1024) : Fin 1024 := ⟨d.val / 128 * 128 + (d.val % 128 + 64) % 128, by omega⟩

/-- The keys: each head of the projection rotated. -/
def ropeK (p : S2048x1024.Idx → EReal) (co sn : S2048x128.Idx → EReal) (i : S2048x1024.Idx) : EReal :=
  p i * co (ix2 (i 0) (lane (i 1))) + p (ix2 (i 0) (swap (i 1))) * sn (ix2 (i 0) (lane (i 1)))

/-- Column `d` of head `h` of group `g`. -/
def col (g : Fin 8) (h : Fin 4) (d : Fin 128) : Fin 4096 := ⟨g.val * 512 + h.val * 128 + d.val, by omega⟩

/-- The queries: each head of the projection rotated. -/
def ropeQ (p : S2048x4096.Idx → EReal) (co sn : S2048x128.Idx → EReal) (i : S8x4x2048x128.Idx) : EReal :=
  p (ix2 (i 2) (col (i 0) (i 1) (i 3))) * co (ix2 (i 2) (i 3)) + p (ix2 (i 2) (col (i 0) (i 1) (far (i 3)))) * sn (ix2 (i 2) (i 3))

/-- Each head of the keys times a matrix. -/
def mulH (k : S2048x1024.Idx → EReal) (hm : S128x128.Idx → EReal) (i : S2048x1024.Idx) : EReal :=
  ∑ e : Fin 128, k (ix2 (i 0) ⟨(i 1).val / 128 * 128 + e.val, by have := (i 1).isLt; change (i 1).val < 1024 at this; omega⟩) * hm (ix2 e (lane (i 1)))

end Cert.KernelIdeal.Spec

end
-- ==== Proof.KernelIdeal.V1.lean ====
/- The value region 1 leaves: the rotated queries, over the extended reals. -/
module

public import proofs.«01_k».proof.Proof.KernelIdeal.R1
public import proofs.«01_k».proof.Proof.KernelIdeal.Spec
public import Idealize.ShloMosaic.Lib.Pointwise
public import Idealize.ShloMosaic.Lib.Pipeline.ValueKit

@[expose] public section

set_option maxRecDepth 16384

noncomputable section

namespace Cert.KernelIdeal.V1

open Cert.KernelIdeal Cert.KernelIdeal.Gen Cert.KernelIdeal.R1 Cert.KernelIdeal.Spec
open Idealize.ShloMosaic Idealize.ShloMosaic.TcCoe Idealize.SL.Sem
open Idealize.ShloMosaic.Pipeline (Dat)

/-- A chunk's product at an index. -/
def blkDot (x : S2048x1024.Idx → EReal) (w : S1024x1024.Idx → EReal) (j : S2048x1024.Idx) : EReal :=
  ∑ k : Fin 1024, x (ix2 (j 0) k) * w (ix2 (j 1) k)

theorem pay1_apply (x : Vec Ideal S2048x1024 .bf16) (w : Vec Ideal S1024x1024 .f32) (j : S2048x1024.Idx) :
    k1_pay1 (F := Ideal) x w j = (0 : EReal) + blkDot x w j := by
  unfold k1_pay1 blkDot
  idx_vars j
  pointwise

theorem pay2_apply (a : Vec Ideal S2048x1024 .f32) (x : Vec Ideal S2048x1024 .bf16) (w : Vec Ideal S1024x1024 .f32)
    (j : S2048x1024.Idx) :
    k1_pay2 (F := Ideal) a x w j = a j + blkDot x w j := by
  unfold k1_pay2 blkDot
  idx_vars j
  pointwise

/-- One head rotated, at an index: the head is the 128 columns from `o` on. -/
theorem head_apply (o : ℕ) (ho : o + 128 ≤ 1024) (hs : S2048x1024.Slices ![0, o] S2048x128) (a : FVec Ideal S2048x1024 .f32)
    (x3 x4 : FVec Ideal S2048x128 .f32) (x : S1x1x2048x128.Idx) :
    shapeCast S1x1x2048x128 (truncf .bf16 (addf (mulf (extractStridedSlice S2048x128 ![0, o] a hs) (shapeCast S2048x128 x3 shapeCasts_S2048x128_S2048x128))
      (mulf (dynamicRotate 1 64#32 none (extractStridedSlice S2048x128 ![0, o] a hs) rotates_S2048x128_d1)
        (shapeCast S2048x128 x4 shapeCasts_S2048x128_S2048x128))) bitsLt_bf16_f32) shapeCasts_S2048x128_S1x1x2048x128 x
    = (a : S2048x1024.Idx → EReal) (ix2 (x 2) ⟨o + (x 3).val, by have := (x 3).isLt; change (x 3).val < 128 at this; omega⟩) * (x3 : S2048x128.Idx → EReal) (ix2 (x 2) (x 3))
      + (a : S2048x1024.Idx → EReal) (ix2 (x 2) ⟨o + ((x 3).val + 64) % 128, by omega⟩) * (x4 : S2048x128.Idx → EReal) (ix2 (x 2) (x 3)) := by
  idx_vars x
  pointwise
  have e : x3.val + 128 - 64 = x3.val + 64 := by omega
  simp only [e]

/-- The heads of a block of the projection, rotated. -/
def blkQ (p : S2048x1024.Idx → EReal) (co sn : S2048x128.Idx → EReal) (i : S2x4x2048x128.Idx) : EReal :=
  p (ix2 (i 2) ⟨(i 0).val * 512 + (i 1).val * 128 + (i 3).val, by
      have h0 := (i 0).isLt; have h1 := (i 1).isLt; have h3 := (i 3).isLt
      change (i 0).val < 2 at h0; change (i 1).val < 4 at h1; change (i 3).val < 128 at h3; omega⟩) * co (ix2 (i 2) (i 3))
    + p (ix2 (i 2) ⟨(i 0).val * 512 + (i 1).val * 128 + ((i 3).val + 64) % 128, by
      have h0 := (i 0).isLt; have h1 := (i 1).isLt
      change (i 0).val < 2 at h0; change (i 1).val < 4 at h1; omega⟩) * sn (ix2 (i 2) (i 3))

/-- The stored pieces are the rotated heads. -/
theorem pieces_apply (a : Vec Ideal S2048x1024 .f32) (x3 x4 : Vec Ideal S2048x128 .f32) (y : S2x4x2048x128.Idx) :
    View.canon (pieces (F := Ideal) a x3 x4) y = blkQ a x3 x4 y := by
  unfold pieces
  canon_tiles x h
  all_goals
    open_payloads
    refine (head_apply _ (by decide) _ a x3 x4 x).trans ?_
    unfold blkQ
    refine congrArg₂ (fun p q : EReal => p + q) (congrArg₂ (fun p q : EReal => p * q) (congrArg a ?_) (congrArg x3 ?_))
      (congrArg₂ (fun p q : EReal => p * q) (congrArg a ?_) (congrArg x4 ?_))
    · exact ix2_eq h2.symm (by change _ = (y 0).val * 512 + (y 1).val * 128 + (y 3).val; dsimp only; omega)
    · exact ix2_eq h2.symm h3.symm
    · exact ix2_eq h2.symm (by change _ = (y 0).val * 512 + (y 1).val * 128 + ((y 3).val + 64) % 128; dsimp only; omega)
    · exact ix2_eq h2.symm h3.symm

theorem pieces_eq (a : Vec Ideal S2048x1024 .f32) (x3 x4 : Vec Ideal S2048x128 .f32) :
    View.canon (pieces (F := Ideal) a x3 x4) = (blkQ a x3 x4 : S2x4x2048x128.Idx → Elt Ideal .bf16) := funext (pieces_apply a x3 x4)

variable (W : Dev nD → Valuation τ sig (Elt Ideal))

theorem idx : ∀ t : Fin cfg1.N, win1_0.index t = ![0, t.val % 4] ∧ win1_1.index t = ![t.val / 4, t.val % 4]
    ∧ win1_2.index t = ![0, 0] ∧ win1_3.index t = ![0, 0] ∧ win1_4.index t = ![t.val / 4, 0, 0, 0] := by decide +kernel

/-- The accumulator after the point that closes a column block: the four chunks' products summed. -/
theorem acc_last (c : Dev nD) (t : Fin cfg1.N) (ht : t.val % 4 = 3) (j : S2048x1024.Idx) :
    acc W c t.val t.isLt j = (0 : EReal) + ∑ s : Fin 4,
      blkDot (iblk W c 0 ⟨4 * (t.val / 4) + s.val, Pipeline.run_point_lt_of_flush t ht s⟩)
        (iblk W c 1 ⟨4 * (t.val / 4) + s.val, Pipeline.run_point_lt_of_flush t ht s⟩) j := by
  refine Pipeline.eq_sum_fin_of_reset_step_apply_of_flush (fun n h => acc W c n h) 4 (fun _ => (0 : EReal))
    (fun t j => blkDot (iblk W c 0 t) (iblk W c 1 t) j) (fun t h i => ?_) (fun t h i => ?_) t ht j
  · try dsimp only
    rw [acc_first W c t h]
    exact pay1_apply _ _ _
  · try dsimp only
    rw [acc_later W c t h]
    exact pay2_apply _ _ _ _

/-- Column `d` of block `b` of the projection. -/
def blkCol (b : ℕ) (hb : b < 4) (d : Fin 1024) : Fin 4096 := ⟨b * 1024 + d.val, by omega⟩

/-- The accumulator then is the block of the projection. -/
theorem acc_dot (c : Dev nD) (t : Fin cfg1.N) (ht : t.val % 4 = 3) (hb : t.val / 4 < 4) :
    (acc W c t.val t.isLt : S2048x1024.Idx → EReal)
      = fun y => dot4 (W c main_v1_0) (W c main_arg2) (ix2 (y 0) (blkCol (t.val / 4) hb (y 1))) := by
  funext y
  refine (acc_last W c t ht y).trans ?_
  rw [zero_add]
  unfold dot4 blkCol
  refine Fin.sum_mul_add_congr (n := 1024) fun s k hl => ?_
  have i0 := (idx ⟨4 * (t.val / 4) + s.val, Pipeline.run_point_lt_of_flush t ht s⟩).1
  have i1 := (idx ⟨4 * (t.val / 4) + s.val, Pipeline.run_point_lt_of_flush t ht s⟩).2.1
  have hs : s.val < 4 := s.isLt
  congr 1 <;> blk_ext [iblk, i0, i1]

/-- The block of the cosines is the whole table. -/
theorem cos_blk (c : Dev nD) (t : Fin cfg1.N) : iblk W c 2 t = (W c main_v1_3 : S2048x128.Idx → EReal) := by
  have i2 := (idx t).2.2.1
  funext y
  blk_ext [iblk, i2]

/-- The block of the signed sines is the whole table. -/
theorem sin_blk (c : Dev nD) (t : Fin cfg1.N) : iblk W c 3 t = (W c main_v1_4 : S2048x128.Idx → EReal) := by
  have i3 := (idx t).2.2.2.1
  funext y
  blk_ext [iblk, i3]

/-- The queries after the region: the projection's heads rotated. -/
theorem queries (c : Dev nD) : (dat W c).arrAt 4 cfg1.N =
    ropeQ (dot4 (W c main_v1_0) (W c main_arg2)) (W c main_v1_3) (W c main_v1_4) := by
  refine (dat W c).arrAt_eq_of_covers 4 _ (by decide +kernel) fun t hf y => ?_
  have ht : t.val % 4 = 3 := (flush1_4 t).mp hf
  have hN : t.val < 16 := lt_of_lt_of_eq t.isLt N_1
  rw [after_4, acc_dot W c t ht (by omega), cos_blk, sin_blk, pieces_eq]
  have i4 := (idx t).2.2.2.2
  unfold blkQ ropeQ col blkCol far
  generalize dot4 _ _ = f
  refine congrArg₂ (fun p q : EReal => p + q) (congrArg₂ (fun p q : EReal => p * q) ?_ ?_)
    (congrArg₂ (fun p q : EReal => p * q) ?_ ?_)
  · blk_ext [i4]
  · blk_ext [i4]
  · blk_ext [i4]
  · blk_ext [i4]

end Cert.KernelIdeal.V1

end
-- ==== Proof.KernelIdeal.V2.lean ====
/- The values region 2 leaves: the rotated keys and the values, over the extended reals. -/
module

public import proofs.«01_k».proof.Proof.KernelIdeal.R2
public import proofs.«01_k».proof.Proof.KernelIdeal.Spec
public import Idealize.ShloMosaic.Lib.Pointwise
public import Idealize.ShloMosaic.Lib.Pipeline.ValueKit

@[expose] public section

set_option maxRecDepth 16384

noncomputable section

namespace Cert.KernelIdeal.V2

open Cert.KernelIdeal Cert.KernelIdeal.Gen Cert.KernelIdeal.R2 Cert.KernelIdeal.Spec
open Idealize.ShloMosaic Idealize.ShloMosaic.TcCoe Idealize.SL.Sem
open Idealize.ShloMosaic.Pipeline (Dat)

/-- A chunk's product at an index. -/
def blkDot (x : S2048x512.Idx → EReal) (w : S1024x512.Idx → EReal) (j : S2048x1024.Idx) : EReal :=
  ∑ k : Fin 512, x (ix2 (j 0) k) * w (ix2 (j 1) k)

theorem pay1_apply (x : Vec Ideal S2048x512 .bf16) (w : Vec Ideal S1024x512 .f32) (j : S2048x1024.Idx) :
    k2_pay1 (F := Ideal) x w j = (0 : EReal) + blkDot x w j := by
  unfold k2_pay1 blkDot
  idx_vars j
  pointwise

theorem pay3_apply (a : Vec Ideal S2048x1024 .f32) (x : Vec Ideal S2048x512 .bf16) (w : Vec Ideal S1024x512 .f32) (j : S2048x1024.Idx) :
    k2_pay3 (F := Ideal) a x w j = a j + blkDot x w j := by
  unfold k2_pay3 blkDot
  idx_vars j
  pointwise

theorem pay2_apply (x : Vec Ideal S2048x512 .bf16) (w : Vec Ideal S1024x512 .f32) (j : S2048x1024.Idx) :
    k2_pay2 (F := Ideal) x w j = (0 : EReal) + blkDot x w j := by
  unfold k2_pay2 blkDot
  idx_vars j
  pointwise

theorem pay4_apply (a : Vec Ideal S2048x1024 .f32) (x : Vec Ideal S2048x512 .bf16) (w : Vec Ideal S1024x512 .f32) (j : S2048x1024.Idx) :
    k2_pay4 (F := Ideal) a x w j = a j + blkDot x w j := by
  unfold k2_pay4 blkDot
  idx_vars j
  pointwise

variable (W : Dev nD → Valuation τ sig (Elt Ideal))

theorem idx : ∀ t : Fin cfg2.N, win2_0.index t = ![0, t.val] ∧ win2_1.index t = ![0, t.val] ∧ win2_2.index t = ![0, t.val]
    ∧ win2_3.index t = ![0, 0] ∧ win2_4.index t = ![0, 0] ∧ win2_5.index t = ![0, 0] ∧ win2_6.index t = ![0, 0] := by decide +kernel

/-- The keys' accumulator after the last point: the eight chunks' products summed. -/
theorem acck_last (c : Dev nD) (t : Fin cfg2.N) (ht : t.val % 8 = 7) (j : S2048x1024.Idx) :
    acck W c t.val t.isLt j = (0 : EReal) + ∑ s : Fin 8,
      blkDot (iblk W c 0 ⟨8 * (t.val / 8) + s.val, Pipeline.run_point_lt_of_flush t ht s⟩)
        (iblk W c 1 ⟨8 * (t.val / 8) + s.val, Pipeline.run_point_lt_of_flush t ht s⟩) j := by
  refine Pipeline.eq_sum_fin_of_reset_step_apply_of_flush (fun n h => acck W c n h) 8 (fun _ => (0 : EReal))
    (fun t j => blkDot (iblk W c 0 t) (iblk W c 1 t) j) (fun t h i => ?_) (fun t h i => ?_) t ht j
  · try dsimp only
    rw [acck_first W c t h]
    exact pay1_apply _ _ _
  · try dsimp only
    rw [acck_later W c t h]
    exact pay3_apply _ _ _ _

/-- The values' accumulator after the last point: the eight chunks' products summed. -/
theorem accv_last (c : Dev nD) (t : Fin cfg2.N) (ht : t.val % 8 = 7) (j : S2048x1024.Idx) :
    accv W c t.val t.isLt j = (0 : EReal) + ∑ s : Fin 8,
      blkDot (iblk W c 0 ⟨8 * (t.val / 8) + s.val, Pipeline.run_point_lt_of_flush t ht s⟩)
        (iblk W c 2 ⟨8 * (t.val / 8) + s.val, Pipeline.run_point_lt_of_flush t ht s⟩) j := by
  refine Pipeline.eq_sum_fin_of_reset_step_apply_of_flush (fun n h => accv W c n h) 8 (fun _ => (0 : EReal))
    (fun t j => blkDot (iblk W c 0 t) (iblk W c 2 t) j) (fun t h i => ?_) (fun t h i => ?_) t ht j
  · try dsimp only
    rw [accv_first W c t h]
    exact pay2_apply _ _ _
  · try dsimp only
    rw [accv_later W c t h]
    exact pay4_apply _ _ _ _

/-- After the last point the keys' accumulator is the projection. -/
theorem acck_dot (c : Dev nD) (t : Fin cfg2.N) (ht : t.val % 8 = 7) :
    (acck W c t.val t.isLt : S2048x1024.Idx → EReal) = dot1 (W c main_v1_0) (W c main_arg3) := by
  funext y
  refine (acck_last W c t ht y).trans ?_
  rw [zero_add]
  unfold dot1
  refine Fin.sum_mul_add_congr (n := 512) fun s k hl => ?_
  have i0 := (idx ⟨8 * (t.val / 8) + s.val, Pipeline.run_point_lt_of_flush t ht s⟩).1
  have i1 := (idx ⟨8 * (t.val / 8) + s.val, Pipeline.run_point_lt_of_flush t ht s⟩).2.1
  have hN : t.val < 8 := lt_of_lt_of_eq t.isLt N_2
  have hs : s.val < 8 := s.isLt
  congr 1 <;> blk_ext [iblk, i0, i1]

/-- After the last point the values' accumulator is the projection. -/
theorem accv_dot (c : Dev nD) (t : Fin cfg2.N) (ht : t.val % 8 = 7) :
    (accv W c t.val t.isLt : S2048x1024.Idx → EReal) = dot1 (W c main_v1_0) (W c main_arg4) := by
  funext y
  refine (accv_last W c t ht y).trans ?_
  rw [zero_add]
  unfold dot1
  refine Fin.sum_mul_add_congr (n := 512) fun s k hl => ?_
  have i0 := (idx ⟨8 * (t.val / 8) + s.val, Pipeline.run_point_lt_of_flush t ht s⟩).1
  have i1 := (idx ⟨8 * (t.val / 8) + s.val, Pipeline.run_point_lt_of_flush t ht s⟩).2.2.1
  have hN : t.val < 8 := lt_of_lt_of_eq t.isLt N_2
  have hs : s.val < 8 := s.isLt
  congr 1 <;> blk_ext [iblk, i0, i1]

/-- One head rotated, at an index: the head is the 128 columns from `o` on. -/
theorem head_apply (o : ℕ) (ho : o + 128 ≤ 1024) (hs : S2048x1024.Slices ![0, o] S2048x128) (a : FVec Ideal S2048x1024 .f32)
    (x3 x4 : FVec Ideal S2048x128 .f32) (x : S2048x128.Idx) :
    truncf .bf16 (addf (mulf (extractStridedSlice S2048x128 ![0, o] a hs) (shapeCast S2048x128 x3 shapeCasts_S2048x128_S2048x128))
      (mulf (dynamicRotate 1 64#32 none (extractStridedSlice S2048x128 ![0, o] a hs) rotates_S2048x128_d1)
        (shapeCast S2048x128 x4 shapeCasts_S2048x128_S2048x128))) bitsLt_bf16_f32 x
    = (a : S2048x1024.Idx → EReal) (ix2 (x 0) ⟨o + (x 1).val, by have := (x 1).isLt; change (x 1).val < 128 at this; omega⟩) * (x3 : S2048x128.Idx → EReal) x
      + (a : S2048x1024.Idx → EReal) (ix2 (x 0) ⟨o + ((x 1).val + 64) % 128, by omega⟩) * (x4 : S2048x128.Idx → EReal) x := by
  idx_vars x
  pointwise
  have e : x1.val + 128 - 64 = x1.val + 64 := by omega
  simp only [e]

/-- The block of the cosines is the whole table. -/
theorem cos_blk (c : Dev nD) (t : Fin cfg2.N) : iblk W c 3 t = (W c main_v1_1 : S2048x128.Idx → EReal) := by
  have i3 := (idx t).2.2.2.1
  funext y
  blk_ext [iblk, i3]

/-- The block of the signed sines is the whole table. -/
theorem sin_blk (c : Dev nD) (t : Fin cfg2.N) : iblk W c 4 t = (W c main_v1_2 : S2048x128.Idx → EReal) := by
  have i4 := (idx t).2.2.2.2.1
  funext y
  blk_ext [iblk, i4]

/-- The stored pieces are the rotated heads. -/
theorem pieces_apply (a : Vec Ideal S2048x1024 .f32) (x3 x4 : Vec Ideal S2048x128 .f32) (y : S2048x1024.Idx) :
    View.canon (pieces (F := Ideal) a x3 x4) y = ropeK a x3 x4 y := by
  unfold pieces
  canon_tiles x h
  all_goals
    open_payloads
    refine (head_apply _ (by decide) _ a x3 x4 x).trans ?_
    unfold ropeK lane swap
    refine congrArg₂ (fun p q : EReal => p + q) (congrArg₂ (fun p q : EReal => p * q) (congrArg a ?_) (congrArg x3 ?_))
      (congrArg₂ (fun p q : EReal => p * q) (congrArg a ?_) (congrArg x4 ?_))
    · exact ix2_eq h0.symm (by dsimp only; omega)
    · exact (ix2_eq h0 (by change (y 1).val % 128 = _; omega)).symm
    · exact ix2_eq h0.symm (by change _ = (y 1).val / 128 * 128 + ((y 1).val % 128 + 64) % 128; dsimp only; omega)
    · exact (ix2_eq h0 (by change (y 1).val % 128 = _; omega)).symm

theorem pieces_eq (a : Vec Ideal S2048x1024 .f32) (x3 x4 : Vec Ideal S2048x128 .f32) :
    View.canon (pieces (F := Ideal) a x3 x4) = (ropeK a x3 x4 : S2048x1024.Idx → Elt Ideal .bf16) := funext (pieces_apply a x3 x4)

/-- The keys after the region: the projection's heads rotated. -/
theorem keys (c : Dev nD) : (dat W c).arrAt 5 cfg2.N =
    ropeK (dot1 (W c main_v1_0) (W c main_arg3)) (W c main_v1_1) (W c main_v1_2) := by
  refine (dat W c).arrAt_eq_of_covers 5 _ (by decide +kernel) fun t hf y => ?_
  have ht : t.val % 8 = 7 := (flush2_5 t).mp hf
  rw [after_5, acck_dot W c t ht, cos_blk, sin_blk, pieces_eq]
  have i5 := (idx t).2.2.2.2.2.1
  generalize ropeK _ _ _ = f
  blk_ext [i5]

/-- The values after the region: the projection. -/
theorem vals (c : Dev nD) : (dat W c).arrAt 6 cfg2.N = dot1 (W c main_v1_0) (W c main_arg4) := by
  refine (dat W c).arrAt_eq_of_covers 6 _ (by decide +kernel) fun t hf y => ?_
  have ht : t.val % 8 = 7 := (flush2_6 t).mp hf
  rw [after_6]
  unfold k2_pay9
  pointwise
  rw [accv_dot W c t ht]
  have i6 := (idx t).2.2.2.2.2.2
  blk_ext [i6]

end Cert.KernelIdeal.V2

end
-- ==== Proof.KernelIdeal.V3.lean ====
/- The value region 3 leaves: each head of the keys times the given matrix, over the extended reals. -/
module

public import proofs.«01_k».proof.Proof.KernelIdeal.R3
public import proofs.«01_k».proof.Proof.KernelIdeal.Spec
public import Idealize.ShloMosaic.Lib.Pointwise
public import Idealize.ShloMosaic.Lib.Pipeline.ValueKit

@[expose] public section

set_option maxRecDepth 16384

noncomputable section

namespace Cert.KernelIdeal.V3

open Cert.KernelIdeal Cert.KernelIdeal.Gen Cert.KernelIdeal.R3 Cert.KernelIdeal.Spec
open Idealize.ShloMosaic Idealize.ShloMosaic.TcCoe Idealize.SL.Sem
open Idealize.ShloMosaic.Pipeline (Dat)

/-- One head of a block times the matrix, at an index: the head is the 128 columns from `o` on. -/
theorem head_apply (o : ℕ) (ho : o + 128 ≤ 1024) (inb : ∀ a, ![0, o] a + S512x128.size a ≤ S512x1024.size a)
    (x0 : Vec Ideal S512x1024 .bf16) (x1 : FVec Ideal S128x128 .f32) (x : S512x128.Idx) :
    (matmul (φ₁ := .bf16) (φ₂ := .f32) dot_S512x128_S128x128_S512x128_1_0_0_1_n_n none
      (shapeCast S512x128 (View.ld x0 (Rect.unit (s := S512x1024) ![0, o] S512x128.size inb) : FVec Ideal S512x128 .bf16) shapeCasts_S512x128_S512x128)
      x1 (constant S512x128 .f32 0x00000000#32) : FVec Ideal S512x128 .f32) x
    = ∑ e : Fin 128, (x0 : S512x1024.Idx → EReal) (ix2 (x 0) ⟨o + e.val, by omega⟩) * (x1 : S128x128.Idx → EReal) (ix2 e (x 1)) := by
  idx_vars x
  pointwise

/-- The stored pieces of a block: each head times the matrix. -/
def blkH (k : S512x1024.Idx → EReal) (hm : S128x128.Idx → EReal) (i : S512x1024.Idx) : EReal :=
  ∑ e : Fin 128, k (ix2 (i 0) ⟨(i 1).val / 128 * 128 + e.val, by have := (i 1).isLt; change (i 1).val < 1024 at this; omega⟩) * hm (ix2 e (lane (i 1)))

theorem pieces_apply (x0 : Vec Ideal S512x1024 .bf16) (x1 : Vec Ideal S128x128 .f32) (y : S512x1024.Idx) :
    View.canon (pieces (F := Ideal) x0 x1) y = blkH x0 x1 y := by
  unfold pieces
  canon_tiles x h
  all_goals
    open_payloads
    refine (head_apply _ (by decide) _ x0 x1 x).trans ?_
    unfold blkH lane
    refine Finset.sum_congr rfl fun e _ => congrArg₂ (fun p q : EReal => p * q) (congrArg x0 ?_) (congrArg x1 ?_)
    · exact ix2_eq h0.symm (by change _ = (y 1).val / 128 * 128 + e.val; dsimp only; omega)
    · exact ix2_eq rfl (by change _ = (y 1).val % 128; omega)

theorem pieces_eq (x0 : Vec Ideal S512x1024 .bf16) (x1 : Vec Ideal S128x128 .f32) :
    View.canon (pieces (F := Ideal) x0 x1) = (blkH x0 x1 : S512x1024.Idx → Elt Ideal .f32) := funext (pieces_apply x0 x1)

variable (W : Dev nD → Valuation τ sig (Elt Ideal))

theorem idx : ∀ t : Fin cfg3.N, win3_0.index t = ![t.val, 0] ∧ win3_1.index t = ![0, 0] ∧ win3_2.index t = ![t.val, 0] := by decide +kernel

/-- The block of the matrix is the whole of it. -/
theorem mat_blk (c : Dev nD) (t : Fin cfg3.N) : iblk W c 1 t = (W c main_cst_1 : S128x128.Idx → EReal) := by
  have i1 := (idx t).2.1
  funext y
  blk_ext [iblk, i1]

/-- A block's heads times the matrix are those of the array, when its rows and lanes are the array's. -/
theorem blk_had (k : S512x1024.Idx → EReal) (K : S2048x1024.Idx → EReal) (hm : S128x128.Idx → EReal) (j : S512x1024.Idx)
    (i : S2048x1024.Idx)
    (hk : ∀ e : Fin 128, k (ix2 (j 0) ⟨(j 1).val / 128 * 128 + e.val, by have := (j 1).isLt; change (j 1).val < 1024 at this; omega⟩)
      = K (ix2 (i 0) ⟨(i 1).val / 128 * 128 + e.val, by have := (i 1).isLt; change (i 1).val < 1024 at this; omega⟩))
    (hl : lane (j 1) = lane (i 1)) : blkH k hm j = mulH K hm i := by
  unfold blkH mulH
  refine Finset.sum_congr rfl fun e _ => ?_
  rw [hk e, hl]

/-- The array after the region: each head of the keys times the matrix. -/
theorem had (c : Dev nD) : (dat W c).arrAt 2 cfg3.N = mulH (W c main_v3_0) (W c main_cst_1) := by
  refine (dat W c).arrAt_eq_of_covers 2 _ (by decide +kernel) fun t hf y => ?_
  have hN : t.val < 4 := lt_of_lt_of_eq t.isLt N_3
  rw [after_2, mat_blk, pieces_eq]
  obtain ⟨i0, i1, i2⟩ := idx t
  refine blk_had _ _ _ _ _ (fun e => ?_) (Fin.ext ?_)
  · blk_ext [iblk, i0, i2]
  · unfold lane
    blk_simp [i2]

end Cert.KernelIdeal.V3

end
-- ==== Proof.Online.lean ====
/- The running softmax of one row: a maximum, a sum of weights and a weighted sum of values are carried from block to
   block, each rescaled when the maximum moves. Whatever the maxima are, the quotient at the end is the weighted mean. -/
module

public import Idealize.ShloMosaic.PureOps.Ideal

@[expose] public section

noncomputable section

namespace Cert.Online

open Idealize.ShloMosaic

/-- The power of two of a score, as a real number. -/
def pw (x : EReal) : ℝ := (Ideal.exp2 x).toReal

theorem pw_nonneg (x : EReal) : 0 ≤ pw x := by
  unfold pw
  induction x using EReal.rec with
  | bot => rw [Ideal.exp2_bot]; exact le_of_eq EReal.toReal_zero.symm
  | coe r => rw [Ideal.exp2_coe, EReal.toReal_coe]; exact Real.rpow_nonneg (by norm_num) r
  | top => rw [Ideal.exp2_top]; exact le_of_eq EReal.toReal_top.symm

theorem pw_bot : pw ⊥ = 0 := by unfold pw; rw [Ideal.exp2_bot]; exact EReal.toReal_zero

theorem pw_coe (r : ℝ) : pw (r : EReal) = (2 : ℝ) ^ r := by
  unfold pw; rw [Ideal.exp2_coe, EReal.toReal_coe]; rfl

/-- A score less a real maximum: the power of two splits. -/
theorem exp2_sub (x : EReal) (hx : x ≠ ⊤) (μ : ℝ) : Ideal.exp2 (x - (μ : EReal)) = ((pw x * (2 : ℝ) ^ (-μ) : ℝ) : EReal) := by
  induction x using EReal.rec with
  | bot => rw [EReal.bot_sub, Ideal.exp2_bot, pw_bot, zero_mul]; rfl
  | coe r =>
    rw [← EReal.coe_sub, Ideal.exp2_coe, pw_coe, ← Real.rpow_add (by norm_num), sub_eq_add_neg]
    rfl
  | top => exact absurd rfl hx

/-- The weights of the first `N` scores. -/
def U (T : ℕ → EReal) (N : ℕ) : ℝ := ∑ c ∈ Finset.range N, pw (T c)

/-- The values weighted by the first `N` scores, each weight times `b`. -/
def A (T V : ℕ → EReal) (b : ℝ) (N : ℕ) : EReal := ∑ c ∈ Finset.range N, ((pw (T c) * b : ℝ) : EReal) * V c

/-- A factor that is a nonnegative real number may be taken out of a sum. -/
theorem sum_mul {ι : Type} (s : Finset ι) (f : ι → EReal) (r : ℝ) (hr : 0 ≤ r) :
    (∑ c ∈ s, f c) * (r : EReal) = ∑ c ∈ s, f c * (r : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (EReal.coe_nonneg.mpr hr) (EReal.coe_ne_top r) _ _

theorem A_mul (T V : ℕ → EReal) (b r : ℝ) (hr : 0 ≤ r) (N : ℕ) : A T V b N * (r : EReal) = A T V (b * r) N := by
  unfold A
  rw [sum_mul _ _ r hr]
  refine Finset.sum_congr rfl fun c _ => ?_
  rw [mul_right_comm, ← EReal.coe_mul, mul_assoc]

/-- A sum of real numbers read in the extended reals. -/
theorem coe_sum {ι : Type} (s : Finset ι) (f : ι → ℝ) : ((∑ c ∈ s, f c : ℝ) : EReal) = ∑ c ∈ s, (f c : EReal) := by
  classical
  induction s using Finset.induction_on with
  | empty => rw [Finset.sum_empty, Finset.sum_empty]; rfl
  | insert a s ha ih => rw [Finset.sum_insert ha, Finset.sum_insert ha, EReal.coe_add, ih]

/-- The maximum of a real number and something below infinity is a real number. -/
theorem max_real (μ : ℝ) (X : EReal) (hX : X ≠ ⊤) : ∃ μ' : ℝ, max (μ : EReal) X = (μ' : EReal) := by
  induction X using EReal.rec with
  | bot => exact ⟨μ, max_eq_left bot_le⟩
  | coe r => exact ⟨max μ r, (EReal.coe_strictMono.monotone.map_max).symm⟩
  | top => exact absurd rfl hX

/-- One block: the carried sum and the carried weighted sum, rescaled from the maximum `μ` to `μ'`, and the block's own
    added, are the sums up to the block's end at `μ'`. -/
theorem sum_step (T : ℕ → EReal) (hT : ∀ c, T c ≠ ⊤) (N B : ℕ) (μ μ' : ℝ) :
    ((U T N * (2 : ℝ) ^ (-μ) : ℝ) : EReal) * Ideal.exp2 ((μ : EReal) - (μ' : EReal))
      + ∑ c : Fin B, Ideal.exp2 (T (N + c.val) - (μ' : EReal)) = ((U T (N + B) * (2 : ℝ) ^ (-μ') : ℝ) : EReal) := by
  have e : (2 : ℝ) ^ (-μ) * (2 : ℝ) ^ (μ - μ') = (2 : ℝ) ^ (-μ') := by
    rw [← Real.rpow_add (by norm_num)]; congr 1; ring
  have h1 : ∑ c : Fin B, Ideal.exp2 (T (N + c.val) - (μ' : EReal))
      = ((∑ c ∈ Finset.range B, pw (T (N + c)) * (2 : ℝ) ^ (-μ') : ℝ) : EReal) := by
    rw [coe_sum, Finset.sum_range]
    exact Finset.sum_congr rfl fun c _ => exp2_sub _ (hT _) μ'
  rw [h1, ← EReal.coe_sub, Ideal.exp2_coe, ← EReal.coe_mul, ← EReal.coe_add]
  congr 1
  change U T N * (2 : ℝ) ^ (-μ) * (2 : ℝ) ^ (μ - μ') + _ = _
  rw [mul_assoc, e, ← Finset.sum_mul, ← add_mul]
  unfold U
  rw [Finset.sum_range_add]

theorem val_step (T V : ℕ → EReal) (hT : ∀ c, T c ≠ ⊤) (N B : ℕ) (μ μ' : ℝ) :
    A T V ((2 : ℝ) ^ (-μ)) N * Ideal.exp2 ((μ : EReal) - (μ' : EReal))
      + ∑ c : Fin B, Ideal.exp2 (T (N + c.val) - (μ' : EReal)) * V (N + c.val) = A T V ((2 : ℝ) ^ (-μ')) (N + B) := by
  have e : (2 : ℝ) ^ (-μ) * (2 : ℝ) ^ (μ - μ') = (2 : ℝ) ^ (-μ') := by
    rw [← Real.rpow_add (by norm_num)]; congr 1; ring
  have h1 : ∑ c : Fin B, Ideal.exp2 (T (N + c.val) - (μ' : EReal)) * V (N + c.val)
      = ∑ c ∈ Finset.range B, ((pw (T (N + c)) * (2 : ℝ) ^ (-μ') : ℝ) : EReal) * V (N + c) := by
    rw [Finset.sum_range]
    exact Finset.sum_congr rfl fun c _ => by rw [exp2_sub _ (hT _) μ']
  rw [h1, ← EReal.coe_sub, Ideal.exp2_coe]
  have h2 := A_mul T V ((2 : ℝ) ^ (-μ)) ((2 : ℝ) ^ (μ - μ')) (Real.rpow_nonneg (by norm_num) _) N
  rw [e] at h2
  refine (congrArg (· + _) h2).trans ?_
  unfold A
  rw [Finset.sum_range_add]

/-- Before the first block nothing is carried. -/
theorem U_zero (T : ℕ → EReal) (b : ℝ) : ((U T 0 * b : ℝ) : EReal) = 0 := by
  unfold U; rw [Finset.sum_range_zero, zero_mul]; rfl

theorem A_zero (T V : ℕ → EReal) (b : ℝ) : A T V b 0 = 0 := by
  unfold A; rw [Finset.sum_range_zero]

/-- The weighted mean of the values, the weights given as nonnegative real numbers. -/
def mean {ι : Type} [Fintype ι] (u : ι → ℝ) (V : ι → EReal) : EReal := ∑ c, ((u c / ∑ e, u e : ℝ) : EReal) * V c

/-- A weighted sum over the sum of the weights, all weights times one positive number, is the mean. -/
theorem div_mean {ι : Type} (s : Finset ι) (u : ι → ℝ) (V : ι → EReal) (b : ℝ) (hb : 0 < b) (hu : 0 < ∑ e ∈ s, u e) :
    Ideal.div (∑ c ∈ s, ((u c * b : ℝ) : EReal) * V c) (((∑ e ∈ s, u e) * b : ℝ) : EReal)
      = ∑ c ∈ s, ((u c / ∑ e ∈ s, u e : ℝ) : EReal) * V c := by
  have hne : (∑ e ∈ s, u e) * b ≠ 0 := (mul_pos hu hb).ne'
  rw [Ideal.div_coe hne, sum_mul _ _ _ (by positivity)]
  refine Finset.sum_congr rfl fun c _ => ?_
  rw [mul_right_comm, ← EReal.coe_mul]
  congr 2
  field_simp

/-- The mean, each weight divided first. -/
theorem sum_div {ι : Type} [Fintype ι] (u : ι → ℝ) (V : ι → EReal) (b : ℝ) (hb : 0 < b) (hu : 0 < ∑ e, u e) :
    ∑ c, Ideal.div ((u c * b : ℝ) : EReal) (((∑ e, u e) * b : ℝ) : EReal) * V c = mean u V := by
  have hne : (∑ e, u e) * b ≠ 0 := (mul_pos hu hb).ne'
  unfold mean
  refine Finset.sum_congr rfl fun c _ => ?_
  rw [Ideal.div_coe hne, ← EReal.coe_mul]
  congr 2
  field_simp

/-- The quotient at the end of a row is the mean over all the scores, when those past the last block weigh nothing. -/
theorem end_mean (T V : ℕ → EReal) (N M : ℕ) (h : N ≤ M) (hz : ∀ c, N ≤ c → T c = ⊥) (b : ℝ) (hb : 0 < b) (hu : 0 < U T N) :
    Ideal.div (A T V b N) ((U T N * b : ℝ) : EReal) = mean (fun c : Fin M => pw (T c.val)) (fun c => V c.val) := by
  have hU : U T N = ∑ c ∈ Finset.range M, pw (T c) := by
    unfold U
    refine Finset.sum_subset (Finset.range_mono h) fun c _ hc => ?_
    rw [hz c (by simpa using hc), pw_bot]
  have hA : A T V b N = ∑ c ∈ Finset.range M, ((pw (T c) * b : ℝ) : EReal) * V c := by
    unfold A
    refine Finset.sum_subset (Finset.range_mono h) fun c _ hc => ?_
    rw [hz c (by simpa using hc), pw_bot, zero_mul, EReal.coe_zero, zero_mul]
  rw [hU] at hu
  rw [hA, hU, div_mean _ _ _ b hb hu]
  unfold mean
  rw [Finset.sum_range, Finset.sum_range]

end Cert.Online

end
-- ==== Proof.KernelIdeal.Flash.lean ====
/- The payloads of region 4 read at an index, and what its loop over the key blocks carries, over the extended reals. -/
module

public import proofs.«01_k».proof.Proof.KernelIdeal.R4
public import proofs.«01_k».proof.Proof.KernelIdeal.Spec
public import proofs.«01_k».proof.Proof.Online
public import Idealize.ShloMosaic.Lib.Pointwise
public import Idealize.ShloMosaic.Lib.Pipeline.ValueKit

@[expose] public section

set_option maxRecDepth 16384

noncomputable section

namespace Cert.KernelIdeal.Flash

open Cert.KernelIdeal Cert.KernelIdeal.Gen Cert.KernelIdeal.R4 Cert.KernelIdeal.Spec Cert.Online
open Idealize.ShloMosaic Idealize.ShloMosaic.TcCoe Idealize.SL.Sem
open Idealize.ShloMosaic.Pipeline (Dat)

/-- The score of row `r` of a block of queries against row `c` of a block of keys. -/
def blkS (v0 : S1x4x512x128.Idx → EReal) (kb : S512x128.Idx → EReal) (r : Fin 2048) (c : Fin 512) : EReal :=
  ∑ e : Fin 128, v0 (ix4 0 ⟨r.val / 512, by omega⟩ ⟨r.val % 512, by omega⟩ e) * kb (ix2 c e)

theorem pay10_apply (v0 : Vec Ideal S1x4x512x128 .bf16) (kb : Vec Ideal S512x128 .bf16) (r : Fin 2048) (c : Fin 512) :
    k4_pay10 (F := Ideal) v0 kb (ix2 r c) = blkS v0 kb r c := by
  unfold k4_pay10 k4_pay6 blkS
  pointwise

/-- The word the running maximum starts from is a real number. -/
theorem start_real : ∃ μ : ℝ, Ideal.ofBits .f32 0xFF7FFFFF#32 = (μ : EReal) := by
  unfold Ideal.ofBits Ideal.ieee
  simp
  refine ⟨-(16777215 * 2 ^ 104), ?_⟩
  push_cast
  rfl

/-- The word a maximum over a block starts from is minus infinity. -/
theorem start_bot : Ideal.ofBits .f32 0xFF800000#32 = (⊥ : EReal) := by
  unfold Ideal.ofBits Ideal.ieee
  simp

/-- The maximum of a block's scores. -/
def blkMax (f : Fin 512 → EReal) : EReal := Finset.fold max ⊥ f Finset.univ

theorem blkMax_ne (f : Fin 512 → EReal) (h : ∀ c, f c ≠ ⊤) : blkMax f ≠ ⊤ := by
  unfold blkMax
  refine ((Finset.fold_max_lt (c := ⊤)).mpr ⟨bot_lt_top, fun c _ => lt_top_iff_ne_top.mpr (h c)⟩).ne

/-- The maximum of each row of scores, as a column. -/
theorem rowMax_apply (x : FVec Ideal S2048x512 .f32) (r : Fin 2048) :
    shapeCast S2048x1 (multiReduction (F := Ideal) .maximumf [1] S2048 x 0xFF800000#32 reduces_S2048x512_S2048 (.inl rfl) rfl) shapeCasts_S2048_S2048x1 (ix2 r 0)
      = blkMax fun c => (x : S2048x512.Idx → EReal) (ix2 r c) := by
  unfold blkMax
  pointwise
  rw [start_bot]

theorem pay11_apply (v0 : Vec Ideal S1x4x512x128 .bf16) (m : FVec Ideal S2048x1 .f32) (kb : Vec Ideal S512x128 .bf16) (r : Fin 2048) :
    k4_pay11 (F := Ideal) v0 m kb (ix2 r 0) = max ((m : S2048x1.Idx → EReal) (ix2 r 0)) (blkMax fun c => blkS v0 kb r c) := by
  unfold k4_pay11
  refine congrArg (max ((m : S2048x1.Idx → EReal) (ix2 r 0))) ((rowMax_apply _ r).trans ?_)
  exact congrArg blkMax (funext fun c => pay10_apply v0 kb r c)

theorem pay14_apply (v0 : Vec Ideal S1x4x512x128 .bf16) (m l : FVec Ideal S2048x1 .f32) (kb : Vec Ideal S512x128 .bf16) (r : Fin 2048) :
    k4_pay14 (F := Ideal) v0 m l kb (ix2 r 0)
      = (l : S2048x1.Idx → EReal) (ix2 r 0) * Ideal.exp2 ((m : S2048x1.Idx → EReal) (ix2 r 0) - (k4_pay11 (F := Ideal) v0 m kb : S2048x1.Idx → EReal) (ix2 r 0))
        + ∑ c : Fin 512, Ideal.exp2 (blkS v0 kb r c - (k4_pay11 (F := Ideal) v0 m kb : S2048x1.Idx → EReal) (ix2 r 0)) := by
  unfold k4_pay14 k4_pay12 k4_pay13
  pointwise
  simp only [pay10_apply]
  rfl

theorem pay15_apply (v0 : Vec Ideal S1x4x512x128 .bf16) (m : FVec Ideal S2048x1 .f32) (a : FVec Ideal S2048x128 .f32)
    (kb vb : Vec Ideal S512x128 .bf16) (r : Fin 2048) (d : Fin 128) :
    k4_pay15 (F := Ideal) v0 m a kb vb (ix2 r d)
      = (a : S2048x128.Idx → EReal) (ix2 r d) * Ideal.exp2 ((m : S2048x1.Idx → EReal) (ix2 r 0) - (k4_pay11 (F := Ideal) v0 m kb : S2048x1.Idx → EReal) (ix2 r 0))
        + ∑ c : Fin 512, Ideal.exp2 (blkS v0 kb r c - (k4_pay11 (F := Ideal) v0 m kb : S2048x1.Idx → EReal) (ix2 r 0)) * (vb : S512x128.Idx → EReal) (ix2 c d) := by
  unfold k4_pay15 k4_pay12 k4_pay13
  pointwise
  simp only [pay10_apply]
  rfl

/-- The literal the masked scores are negated from is infinity. -/
theorem named_large : (Named.named κ "large" 0x7F7FFFFF#32 : Ideal .f32) = (⊤ : EReal) :=
  IdealRules.named_const.ideal_named_scalar _ _ _ _ rfl

/-- On the diagonal block the columns past the row are masked. -/
theorem mask_bit : ∀ (c : Fin 512) (r : Fin 2048),
    (IntOp.cmpi .sle (BitVec.ofNat 32 c.val) (IntOp.andi (BitVec.ofNat 32 r.val) 511#32) = 1#1) ↔ c.val ≤ r.val % 512 := by
  intro c r
  have ha : IntOp.andi (BitVec.ofNat 32 r.val) 511#32 = BitVec.ofNat 32 (r.val % 512) := by
    apply BitVec.eq_of_toNat_eq
    show (BitVec.ofNat 32 r.val &&& 511#32).toNat = _
    rw [BitVec.toNat_and, BitVec.toNat_ofNat, BitVec.toNat_ofNat, BitVec.toNat_ofNat, Nat.mod_eq_of_lt (by omega : r.val < 2 ^ 32),
      Nat.mod_eq_of_lt (by omega : r.val % 512 < 2 ^ 32)]
    exact Nat.and_two_pow_sub_one_eq_mod r.val 9
  rw [ha]
  exact WordCmp.cmpi_sle_ofNat_eq_one_iff (by omega) (by omega)

theorem pay23_apply (v0 : Vec Ideal S1x4x512x128 .bf16) (kb : Vec Ideal S512x128 .bf16) (r : Fin 2048) (c : Fin 512) :
    k4_pay23 (F := Ideal) v0 kb (ix2 r c) = if c.val ≤ r.val % 512 then blkS v0 kb r c else (⊥ : EReal) := by
  unfold k4_pay23 k4_pay6 blkS
  pointwise
  rw [named_large]
  by_cases hc : c.val ≤ r.val % 512
  · rw [if_pos hc, (mask_bit c r).mpr hc]
    rfl
  · rw [if_neg hc]
    refine (if_neg fun h => hc ((mask_bit c r).mp h)).trans ?_
    exact (zero_sub (⊤ : EReal)).trans EReal.neg_top

/-- The scores of a block on the diagonal, the masked ones minus infinity. -/
def blkT (v0 : S1x4x512x128.Idx → EReal) (kb : S512x128.Idx → EReal) (r : Fin 2048) (c : Fin 512) : EReal :=
  if c.val ≤ r.val % 512 then blkS v0 kb r c else ⊥

theorem pay24_apply (v0 : Vec Ideal S1x4x512x128 .bf16) (m : FVec Ideal S2048x1 .f32) (kb : Vec Ideal S512x128 .bf16) (r : Fin 2048) :
    k4_pay24 (F := Ideal) v0 m kb (ix2 r 0) = max ((m : S2048x1.Idx → EReal) (ix2 r 0)) (blkMax fun c => blkT v0 kb r c) := by
  unfold k4_pay24
  refine congrArg (max ((m : S2048x1.Idx → EReal) (ix2 r 0))) ((rowMax_apply _ r).trans ?_)
  exact congrArg blkMax (funext fun c => pay23_apply v0 kb r c)

theorem pay25_apply (v0 : Vec Ideal S1x4x512x128 .bf16) (m : FVec Ideal S2048x1 .f32) (kb : Vec Ideal S512x128 .bf16) (r : Fin 2048) :
    k4_pay25 (F := Ideal) v0 m kb (ix2 r 0)
      = Ideal.exp2 ((m : S2048x1.Idx → EReal) (ix2 r 0) - (k4_pay24 (F := Ideal) v0 m kb : S2048x1.Idx → EReal) (ix2 r 0)) := by
  unfold k4_pay25
  pointwise
  rfl

/-- The quotient a point stores, before it is cut into heads. -/
theorem pay1_apply (l : FVec Ideal S2048x1 .f32) (a : FVec Ideal S2048x128 .f32) (vd : FVec Ideal S512x128 .bf16)
    (s : FVec Ideal S2048x512 .f32) (m' al : FVec Ideal S2048x1 .f32) (r : Fin 2048) (d : Fin 128) :
    k4_pay1 (F := Ideal) l a vd s m' al (ix2 r d) = Ideal.div
      ((a : S2048x128.Idx → EReal) (ix2 r d) * (al : S2048x1.Idx → EReal) (ix2 r 0)
        + ∑ c : Fin 512, Ideal.exp2 ((s : S2048x512.Idx → EReal) (ix2 r c) - (m' : S2048x1.Idx → EReal) (ix2 r 0)) * (vd : S512x128.Idx → EReal) (ix2 c d))
      ((l : S2048x1.Idx → EReal) (ix2 r 0) * (al : S2048x1.Idx → EReal) (ix2 r 0)
        + ∑ c : Fin 512, Ideal.exp2 ((s : S2048x512.Idx → EReal) (ix2 r c) - (m' : S2048x1.Idx → EReal) (ix2 r 0))) := by
  unfold k4_pay1
  pointwise
  rfl

/-- A head cut out of the quotient. -/
theorem cut_apply (o : ℕ) (ho : o + 512 ≤ 2048) (hs : S2048x128.Slices ![o, 0] S512x128) (q : FVec Ideal S2048x128 .f32) (x : S512x128.Idx) :
    truncf .bf16 (extractStridedSlice S512x128 ![o, 0] q hs) bitsLt_bf16_f32 x
      = (q : S2048x128.Idx → EReal) (ix2 ⟨o + (x 0).val, by have := (x 0).isLt; change (x 0).val < 512 at this; omega⟩ (x 1)) := by
  idx_vars x
  pointwise

/-- What the loop carries after `N` keys: for each row, a real maximum, and the sums at it. -/
def Inv (T : Fin 2048 → ℕ → EReal) (V : Fin 128 → ℕ → EReal) (s : St Ideal) (N : ℕ) : Prop :=
  ∀ r : Fin 2048, ∃ μ : ℝ, (s.1 : S2048x1.Idx → EReal) (ix2 r 0) = (μ : EReal)
    ∧ (s.2.1 : S2048x1.Idx → EReal) (ix2 r 0) = ((U (T r) N * (2 : ℝ) ^ (-μ) : ℝ) : EReal)
    ∧ ∀ d : Fin 128, (s.2.2 : S2048x128.Idx → EReal) (ix2 r d) = A (T r) (V d) ((2 : ℝ) ^ (-μ)) N

theorem inv_zero (T : Fin 2048 → ℕ → EReal) (V : Fin 128 → ℕ → EReal) : Inv T V (k4_pay7 (F := Ideal), k4_pay8, k4_pay9) 0 := by
  intro r
  obtain ⟨μ, hμ⟩ := start_real
  refine ⟨μ, ?_, ?_, fun d => ?_⟩
  · dsimp only
    unfold k4_pay7
    pointwise
    exact hμ
  · dsimp only
    unfold k4_pay8
    rw [U_zero]
    pointwise
  · dsimp only
    unfold k4_pay9
    rw [A_zero]
    pointwise

theorem inv_step (T : Fin 2048 → ℕ → EReal) (V : Fin 128 → ℕ → EReal) (hT : ∀ r c, T r c ≠ ⊤) (s : St Ideal) (N : ℕ)
    (v0 : Vec Ideal S1x4x512x128 .bf16) (kb vb : Vec Ideal S512x128 .bf16)
    (hk : ∀ r (c : Fin 512), blkS v0 kb r c = T r (N + c.val)) (hv : ∀ d (c : Fin 512), (vb : S512x128.Idx → EReal) (ix2 c d) = V d (N + c.val))
    (h : Inv T V s N) : Inv T V (step v0 kb vb s) (N + 512) := by
  intro r
  obtain ⟨μ, hm, hl, ha⟩ := h r
  obtain ⟨μ', hμ'⟩ := max_real μ (blkMax fun c => T r (N + c.val)) (blkMax_ne _ fun c => hT r _)
  have h11 : (k4_pay11 (F := Ideal) v0 s.1 kb : S2048x1.Idx → EReal) (ix2 r 0) = (μ' : EReal) := by
    rw [pay11_apply, hm]
    simp only [hk]
    exact hμ'
  refine ⟨μ', h11, ?_, fun d => ?_⟩
  · refine (pay14_apply v0 s.1 s.2.1 kb r).trans ?_
    rw [h11, hl, hm]
    simp only [hk]
    exact sum_step (T r) (hT r) N 512 μ μ'
  · refine (pay15_apply v0 s.1 s.2.2 kb vb r d).trans ?_
    rw [h11, ha d, hm]
    simp only [hk, hv]
    exact val_step (T r) (V d) (hT r) N 512 μ μ'

/-- The quotient stored at the end: the mean of the values under the row's weights. -/
theorem inv_end (T : Fin 2048 → ℕ → EReal) (V : Fin 128 → ℕ → EReal) (hT : ∀ r c, T r c ≠ ⊤) (s : St Ideal) (N : ℕ)
    (v0 : Vec Ideal S1x4x512x128 .bf16) (kd vd : Vec Ideal S512x128 .bf16)
    (hk : ∀ r (c : Fin 512), blkT v0 kd r c = T r (N + c.val)) (hv : ∀ d (c : Fin 512), (vd : S512x128.Idx → EReal) (ix2 c d) = V d (N + c.val))
    (hN : N + 512 ≤ 2048) (hz : ∀ r c, N + 512 ≤ c → T r c = ⊥) (hu : ∀ r, 0 < U (T r) (N + 512))
    (h : Inv T V s N) (r : Fin 2048) (d : Fin 128) :
    k4_pay1 (F := Ideal) s.2.1 s.2.2 (k4_pay22 vd) (k4_pay23 v0 kd) (k4_pay24 v0 s.1 kd) (k4_pay25 v0 s.1 kd) (ix2 r d)
      = mean (fun c : Fin 2048 => pw (T r c.val)) (fun c => V d c.val) := by
  obtain ⟨μ, hm, hl, ha⟩ := h r
  obtain ⟨μ', hμ'⟩ := max_real μ (blkMax fun c => T r (N + c.val)) (blkMax_ne _ fun c => hT r _)
  have h24 : (k4_pay24 (F := Ideal) v0 s.1 kd : S2048x1.Idx → EReal) (ix2 r 0) = (μ' : EReal) := by
    rw [pay24_apply, hm]
    simp only [hk]
    exact hμ'
  have h22 : ∀ c : Fin 512, (k4_pay22 (F := Ideal) vd : S512x128.Idx → EReal) (ix2 c d) = V d (N + c.val) := by
    intro c
    rw [← hv]
    unfold k4_pay22
    pointwise
  have h23 : ∀ c : Fin 512, (k4_pay23 (F := Ideal) v0 kd : S2048x512.Idx → EReal) (ix2 r c) = T r (N + c.val) :=
    fun c => (pay23_apply v0 kd r c).trans (hk r c)
  rw [pay1_apply]
  rw [pay25_apply, h24, hl, ha d, hm]
  simp only [h22, h23]
  rw [sum_step (T r) (hT r) N 512 μ μ', val_step (T r) (V d) (hT r) N 512 μ μ']
  exact end_mean (T r) (V d) (N + 512) 2048 hN (hz r) _ (Real.rpow_pos_of_pos (by norm_num) _) (hu r)

end Cert.KernelIdeal.Flash

end
-- ==== Proof.KernelIdeal.V4.lean ====
/- The value region 4 leaves: attention, over the extended reals. -/
module

public import proofs.«01_k».proof.Proof.KernelIdeal.Flash
public import Idealize.ShloMosaic.Lib.Pointwise
public import Idealize.ShloMosaic.Lib.Pipeline.ValueKit

@[expose] public section

set_option maxRecDepth 16384

noncomputable section

namespace Cert.KernelIdeal.V4

open Cert.KernelIdeal Cert.KernelIdeal.Gen Cert.KernelIdeal.R4 Cert.KernelIdeal.Spec Cert.KernelIdeal.Flash Cert.Online
open Idealize.ShloMosaic Idealize.ShloMosaic.TcCoe Idealize.SL.Sem
open Idealize.ShloMosaic.Pipeline (Dat)

theorem idx : ∀ t : Fin cfg4.N, win4_0.index t = ![t.val / 4, 0, t.val % 4, 0] ∧ win4_1.index t = ![0, t.val / 4]
    ∧ win4_2.index t = ![0, t.val / 4] ∧ win4_3.index t = ![t.val % 4, t.val / 4] := by decide +kernel

theorem trips1 : ∀ t : Fin cfg4.N, (k4_t1_loop (grid4.coords t)).trips = t.val % 4 := by decide +kernel

theorem off1 : ∀ t : Fin cfg4.N, ∀ k : Fin (k4_t1_loop (grid4.coords t)).trips, k4_off1 (grid4.coords t) k = ![512 * k.val, 0] := by decide +kernel

theorem off3 : ∀ t : Fin cfg4.N, k4_off3 (grid4.coords t) = ![512 * (t.val % 4), 0] := by decide +kernel

/-- The score of row `r` of a block of queries against key `c`. -/
def S (x0 : S1x4x512x128.Idx → EReal) (x1 : S2048x128.Idx → EReal) (r c : Fin 2048) : EReal :=
  ∑ e : Fin 128, x0 (ix4 0 ⟨r.val / 512, by omega⟩ ⟨r.val % 512, by omega⟩ e) * x1 (ix2 c e)

/-- The same, minus infinity where the key is past the row's position: the block starts at position `512 p`. -/
def T (p : ℕ) (x0 : S1x4x512x128.Idx → EReal) (x1 : S2048x128.Idx → EReal) (r : Fin 2048) (c : ℕ) : EReal :=
  if h : c < 2048 then if c ≤ 512 * p + r.val % 512 then S x0 x1 r ⟨c, h⟩ else ⊥ else ⊥

/-- Entry `d` of value `c`. -/
def V (x2 : S2048x128.Idx → EReal) (d : Fin 128) (c : ℕ) : EReal := if h : c < 2048 then x2 (ix2 ⟨c, h⟩ d) else 0

section Point
variable (t : Fin cfg4.N) (x0 : Vec Ideal S1x4x512x128 .bf16) (x1 x2 : Vec Ideal S2048x128 .bf16)

theorem rows_apply (x : Vec Ideal S2048x128 .bf16) (k : Fin (k4_t1_loop (grid4.coords t)).trips) (c : Fin 512) (d : Fin 128) (h : 512 * k.val + c.val < 2048) :
    (rows (F := Ideal) x (grid4.coords t) k : S512x128.Idx → EReal) (ix2 c d) = (x : S2048x128.Idx → EReal) (ix2 ⟨512 * k.val + c.val, h⟩ d) := by
  unfold rows
  refine View.ld_unit_apply_of (S := S2048x128) x _ _ _ _ _ fun a => ?_
  refine Eq.trans ?_ (congrArg (fun f : Fin 2 → ℕ => f a + (ix2 c d a).val) (off1 t k)).symm
  match a with
  | 0 => rfl
  | 1 => exact (Nat.zero_add _).symm

theorem diag_apply (x : Vec Ideal S2048x128 .bf16) (c : Fin 512) (d : Fin 128) (h : 512 * (t.val % 4) + c.val < 2048) :
    (diag (F := Ideal) x (grid4.coords t) : S512x128.Idx → EReal) (ix2 c d) = (x : S2048x128.Idx → EReal) (ix2 ⟨512 * (t.val % 4) + c.val, h⟩ d) := by
  unfold diag
  refine View.ld_unit_apply_of (S := S2048x128) x _ _ _ _ _ fun a => ?_
  refine Eq.trans ?_ (congrArg (fun f : Fin 2 → ℕ => f a + (ix2 c d a).val) (off3 t)).symm
  match a with
  | 0 => rfl
  | 1 => exact (Nat.zero_add _).symm

variable (hS : ∀ r c, ∃ y : ℝ, S x0 x1 r c = (y : EReal))
include hS

theorem T_ne (r : Fin 2048) (c : ℕ) : T (t.val % 4) x0 x1 r c ≠ ⊤ := by
  unfold T
  split_ifs with h h'
  · obtain ⟨y, hy⟩ := hS r ⟨c, h⟩
    rw [hy]
    exact EReal.coe_ne_top y
  · exact bot_ne_top
  · exact bot_ne_top

/-- The loop carries the sums over the key blocks before the diagonal. -/
theorem inv (n : ℕ) (hn : n ≤ t.val % 4) :
    Inv (T (t.val % 4) x0 x1) (V x2) (st (F := Ideal) (grid4.coords t) x0 x1 x2 n) (512 * n) := by
  induction n with
  | zero => exact inv_zero _ _
  | succ n ih =>
    have ht : t.val % 4 < 4 := Nat.mod_lt _ (by norm_num)
    have hlt : n < (k4_t1_loop (grid4.coords t)).trips := by rw [trips1]; omega
    rw [st_succ, dif_pos hlt]
    refine inv_step _ _ (T_ne t x0 x1 hS) _ (512 * n) _ _ _ (fun r c => ?_) (fun d c => ?_) (ih (by omega))
    · have hc : 512 * n + c.val < 2048 := by omega
      unfold blkS T S
      rw [dif_pos hc, if_pos (by omega)]
      exact Finset.sum_congr rfl fun e _ => congrArg₂ (fun p q : EReal => p * q) rfl (rows_apply t x1 ⟨n, hlt⟩ c e hc)
    · have hc : 512 * n + c.val < 2048 := by omega
      unfold V
      rw [dif_pos hc]
      exact rows_apply t x2 ⟨n, hlt⟩ c d hc

/-- The quotient of a point: the mean of the values under the weights of the row's scores. -/
theorem quot (r : Fin 2048) (d : Fin 128) :
    k4_pay1 (F := Ideal) (fin (grid4.coords t) x0 x1 x2).2.1 (fin (grid4.coords t) x0 x1 x2).2.2 (k4_pay22 (diag x2 (grid4.coords t)))
      (k4_pay23 x0 (diag x1 (grid4.coords t))) (k4_pay24 x0 (fin (grid4.coords t) x0 x1 x2).1 (diag x1 (grid4.coords t)))
      (k4_pay25 x0 (fin (grid4.coords t) x0 x1 x2).1 (diag x1 (grid4.coords t))) (ix2 r d)
    = mean (fun c : Fin 2048 => pw (if c.val ≤ 512 * (t.val % 4) + r.val % 512 then S x0 x1 r c else ⊥))
        (fun c => (x2 : S2048x128.Idx → EReal) (ix2 c d)) := by
  have ht : t.val % 4 < 4 := Nat.mod_lt _ (by norm_num)
  have hfin := inv t x0 x1 x2 hS (t.val % 4) le_rfl
  rw [← trips1 t] at hfin
  rw [trips1 t] at hfin
  have e : fin (F := Ideal) (grid4.coords t) x0 x1 x2 = st (grid4.coords t) x0 x1 x2 (t.val % 4) := by
    show st _ _ _ _ _ = _
    rw [trips1]
  rw [e]
  refine (inv_end (T (t.val % 4) x0 x1) (V x2) (T_ne t x0 x1 hS) _ (512 * (t.val % 4)) x0 _ _ (fun r c => ?_) (fun d c => ?_)
    (by omega) (fun r c hc => ?_) (fun r => ?_) hfin r d).trans ?_
  · have hc : 512 * (t.val % 4) + c.val < 2048 := by omega
    unfold blkT blkS T S
    rw [dif_pos hc]
    by_cases hr : c.val ≤ r.val % 512
    · rw [if_pos hr, if_pos (by omega)]
      exact Finset.sum_congr rfl fun e _ => congrArg₂ (fun p q : EReal => p * q) rfl (diag_apply t x1 c e hc)
    · rw [if_neg hr, if_neg (by omega)]
  · have hc : 512 * (t.val % 4) + c.val < 2048 := by omega
    unfold V
    rw [dif_pos hc]
    exact diag_apply t x2 c d hc
  · unfold T
    split_ifs with h h'
    · exact absurd h' (by omega)
    · rfl
    · rfl
  · unfold U
    refine Finset.sum_pos' (fun c _ => pw_nonneg _) ⟨0, Finset.mem_range.mpr (by omega), ?_⟩
    unfold T
    rw [dif_pos (by norm_num), if_pos (by omega)]
    obtain ⟨y, hy⟩ := hS r ⟨0, by norm_num⟩
    rw [hy, pw_coe]
    exact Real.rpow_pos_of_pos (by norm_num) y
  · refine congrArg₂ mean (funext fun c => ?_) (funext fun c => ?_)
    · unfold T
      rw [dif_pos c.isLt]
    · unfold V
      rw [dif_pos c.isLt]

end Point

/-- The block a point stores: head `h` in columns `128 h` on. -/
def blkO (p : ℕ) (x0 : S1x4x512x128.Idx → EReal) (x1 x2 : S2048x128.Idx → EReal) (y : S512x512.Idx) : EReal :=
  mean (fun c : Fin 2048 => pw (if c.val ≤ 512 * p + (y 0).val then
      ∑ e : Fin 128, x0 (ix4 0 ⟨(y 1).val / 128, by have h := (y 1).isLt; change (y 1).val < 512 at h; omega⟩ (y 0) e) * x1 (ix2 c e) else ⊥))
    (fun c => x2 (ix2 c ⟨(y 1).val % 128, by omega⟩))

theorem blkO_of (t : Fin cfg4.N) (x0 : S1x4x512x128.Idx → EReal) (x1 x2 : S2048x128.Idx → EReal) (y : S512x512.Idx) (r : Fin 2048) (d : Fin 128)
    (hr : r.val = (y 1).val / 128 * 512 + (y 0).val) (hd : d.val = (y 1).val % 128) (hy : (y 0).val < 512) :
    mean (fun c : Fin 2048 => pw (if c.val ≤ 512 * (t.val % 4) + r.val % 512 then S x0 x1 r c else ⊥)) (fun c => x2 (ix2 c d))
      = blkO (t.val % 4) x0 x1 x2 y := by
  unfold blkO S
  have e0 : r.val % 512 = (y 0).val := by omega
  have e1 : r.val / 512 = (y 1).val / 128 := by omega
  have f0 : (⟨r.val % 512, by omega⟩ : Fin 512) = y 0 := Fin.ext e0
  have f1 : d = ⟨(y 1).val % 128, by omega⟩ := Fin.ext hd
  simp only [e1, f0, f1, e0]
  rfl

theorem pieces_apply (t : Fin cfg4.N) (x0 : Vec Ideal S1x4x512x128 .bf16) (x1 x2 : Vec Ideal S2048x128 .bf16)
    (hS : ∀ r c, ∃ y : ℝ, S x0 x1 r c = (y : EReal)) (y : S512x512.Idx) :
    View.canon (pieces (F := Ideal) (fin (grid4.coords t) x0 x1 x2) x0 (diag x1 (grid4.coords t)) (diag x2 (grid4.coords t))) y
      = blkO (t.val % 4) x0 x1 x2 y := by
  unfold pieces
  have hy : (y 0).val < 512 := (y 0).isLt
  canon_tiles x h
  all_goals
    first | unfold k4_pay2 | unfold k4_pay3 | unfold k4_pay4 | unfold k4_pay5
    refine (cut_apply _ (by decide) _ _ x).trans ((quot t x0 x1 x2 hS _ _).trans (blkO_of t x0 x1 x2 y _ _ ?_ ?_ hy))
    · dsimp only; omega
    · omega

theorem pieces_eq (t : Fin cfg4.N) (x0 : Vec Ideal S1x4x512x128 .bf16) (x1 x2 : Vec Ideal S2048x128 .bf16)
    (hS : ∀ r c, ∃ y : ℝ, S x0 x1 r c = (y : EReal)) :
    View.canon (pieces (F := Ideal) (fin (grid4.coords t) x0 x1 x2) x0 (diag x1 (grid4.coords t)) (diag x2 (grid4.coords t)))
      = (blkO (t.val % 4) x0 x1 x2 : S512x512.Idx → Elt Ideal .bf16) := funext (pieces_apply t x0 x1 x2 hS)

/-- Column `e` of the keys or values of group `g`. -/
def kcol (g : Fin 8) (e : Fin 128) : Fin 1024 := ⟨g.val * 128 + e.val, by omega⟩

/-- The score, in powers of two, of query `i` of a head against key `c` of its group. -/
def score (q : S8x4x2048x128.Idx → EReal) (k : S2048x1024.Idx → EReal) (g : Fin 8) (h : Fin 4) (i c : Fin 2048) : EReal :=
  ∑ e : Fin 128, q (ix4 g h i e) * k (ix2 c (kcol g e))

/-- Attention: at position `i`, the mean of the values up to `i` under the powers of two of the scores. -/
def attn (q : S8x4x2048x128.Idx → EReal) (k v : S2048x1024.Idx → EReal) (g : Fin 8) (h : Fin 4) (i : Fin 2048) (d : Fin 128) : EReal :=
  mean (fun c : Fin 2048 => pw (if c.val ≤ i.val then score q k g h i c else ⊥)) (fun c => v (ix2 c (kcol g d)))

/-- The same as an array: head `h` of group `g` in columns `512 g + 128 h` on. -/
def attnO (q : S8x4x2048x128.Idx → EReal) (k v : S2048x1024.Idx → EReal) (i : S2048x4096.Idx) : EReal :=
  attn q k v ⟨(i 1).val / 512, by have h := (i 1).isLt; change (i 1).val < 4096 at h; omega⟩
    ⟨(i 1).val % 512 / 128, by omega⟩ (i 0) ⟨(i 1).val % 128, by omega⟩

theorem blk_attn (p : ℕ) (x0 : S1x4x512x128.Idx → EReal) (x1 x2 : S2048x128.Idx → EReal) (y : S512x512.Idx)
    (q : S8x4x2048x128.Idx → EReal) (k v : S2048x1024.Idx → EReal) (g : Fin 8) (i : S2048x4096.Idx)
    (h0 : ∀ h s e (hs : 512 * p + s.val < 2048), x0 (ix4 0 h s e) = q (ix4 g h ⟨512 * p + s.val, hs⟩ e))
    (h1 : ∀ c e, x1 (ix2 c e) = k (ix2 c (kcol g e))) (h2 : ∀ c e, x2 (ix2 c e) = v (ix2 c (kcol g e)))
    (hi : (i 0).val = 512 * p + (y 0).val) (hj : (i 1).val = g.val * 512 + (y 1).val) : blkO p x0 x1 x2 y = attnO q k v i := by
  have hy : (y 1).val < 512 := (y 1).isLt
  have hb : (i 0).val < 2048 := (i 0).isLt
  have e0 : (⟨(i 1).val / 512, by omega⟩ : Fin 8) = g := Fin.ext (by dsimp only; omega)
  have e1 : (⟨(y 1).val / 128, by omega⟩ : Fin 4) = ⟨(i 1).val % 512 / 128, by omega⟩ := Fin.ext (by dsimp only; omega)
  have e2 : (⟨(y 1).val % 128, by omega⟩ : Fin 128) = ⟨(i 1).val % 128, by omega⟩ := Fin.ext (by dsimp only; omega)
  have e3 : (⟨512 * p + (y 0).val, by omega⟩ : Fin 2048) = i 0 := Fin.ext hi.symm
  unfold blkO attnO attn score
  rw [e0, e1, e2, ← hi]
  refine congrArg₂ mean (funext fun c => congrArg pw ?_) (funext fun c => h2 _ _)
  refine ite_congr rfl (fun _ => Finset.sum_congr rfl fun e _ => ?_) fun _ => rfl
  exact congrArg₂ (fun p q : EReal => p * q) ((h0 _ _ _ (hi ▸ hb)).trans (congrArg (fun z : Fin 2048 => q (ix4 g _ z e)) e3)) (h1 _ _)

variable (W : Dev nD → Valuation τ sig (Elt Ideal))

/-- The array after the region: attention, when the scores are real numbers. -/
theorem out (c : Dev nD) (hq : ∀ g h i j, ∃ y : ℝ, score (W c main_v2) (W c main_v3_0) g h i j = (y : EReal)) :
    (dat W c).arrAt 3 cfg4.N = attnO (W c main_v2) (W c main_v3_0) (W c main_v3_1) := by
  refine (dat W c).arrAt_eq_of_covers 3 _ (by decide +kernel) fun t hf y => ?_
  have hN : t.val < 32 := lt_of_lt_of_eq t.isLt N_4
  obtain ⟨i0, i1, i2, i3⟩ := idx t
  have h0 : ∀ (h : Fin 4) (s : Fin 512) (e : Fin 128) (hs : 512 * (t.val % 4) + s.val < 2048),
      (iblk W c 0 t : S1x4x512x128.Idx → EReal) (ix4 0 h s e) = (W c main_v2 : S8x4x2048x128.Idx → EReal) (ix4 ⟨t.val / 4, by omega⟩ h ⟨512 * (t.val % 4) + s.val, hs⟩ e) := by
    intro h s e hs
    blk_ext [iblk, i0]
  have h1 : ∀ (j : Fin 2048) (e : Fin 128), (iblk W c 1 t : S2048x128.Idx → EReal) (ix2 j e) = (W c main_v3_0 : S2048x1024.Idx → EReal) (ix2 j (kcol ⟨t.val / 4, by omega⟩ e)) := by
    intro j e
    unfold kcol
    blk_ext [iblk, i1]
  have h2 : ∀ (j : Fin 2048) (e : Fin 128), (iblk W c 2 t : S2048x128.Idx → EReal) (ix2 j e) = (W c main_v3_1 : S2048x1024.Idx → EReal) (ix2 j (kcol ⟨t.val / 4, by omega⟩ e)) := by
    intro j e
    unfold kcol
    blk_ext [iblk, i2]
  have hS : ∀ r j, ∃ y : ℝ, S (iblk W c 0 t) (iblk W c 1 t) r j = (y : EReal) := by
    intro r j
    obtain ⟨y, hy⟩ := hq ⟨t.val / 4, by omega⟩ ⟨r.val / 512, by omega⟩ ⟨512 * (t.val % 4) + r.val % 512, by omega⟩ j
    refine ⟨y, Eq.trans ?_ hy⟩
    unfold S score
    exact Finset.sum_congr rfl fun e _ => congrArg₂ (fun p q : EReal => p * q) (h0 _ _ _ (by dsimp only; omega)) (h1 _ _)
  rw [after_3, pieces_eq t _ _ _ hS]
  refine blk_attn _ _ _ _ _ _ _ _ ⟨t.val / 4, by omega⟩ _ h0 h1 h2 ?_ ?_
  · blk_simp [i3]
    exact congrArg (· + (y 0).val) (Nat.mul_comm _ _)
  · blk_simp [i3]

end Cert.KernelIdeal.V4

end
-- ==== Proof.KernelIdeal.V5.lean ====
/- The value region 5 leaves: the product with the output weights, over the extended reals. -/
module

public import proofs.«01_k».proof.Proof.KernelIdeal.R5
public import proofs.«01_k».proof.Proof.KernelIdeal.Spec
public import Idealize.ShloMosaic.Lib.Pointwise
public import Idealize.ShloMosaic.Lib.Pipeline.ValueKit

@[expose] public section

set_option maxRecDepth 16384

noncomputable section

namespace Cert.KernelIdeal.V5

open Cert.KernelIdeal Cert.KernelIdeal.Gen Cert.KernelIdeal.R5 Cert.KernelIdeal.Spec
open Idealize.ShloMosaic Idealize.ShloMosaic.TcCoe Idealize.SL.Sem
open Idealize.ShloMosaic.Pipeline (Dat)

/-- A chunk's product at an index. -/
def blkDot (x : S2048x1024.Idx → EReal) (w : S1024x1024.Idx → EReal) (j : S2048x1024.Idx) : EReal :=
  ∑ k : Fin 1024, x (ix2 (j 0) k) * w (ix2 (j 1) k)

theorem pay1_apply (x : Vec Ideal S2048x1024 .bf16) (w : Vec Ideal S1024x1024 .f32) (j : S2048x1024.Idx) :
    k5_pay1 (F := Ideal) x w j = (0 : EReal) + blkDot x w j := by
  unfold k5_pay1 blkDot
  idx_vars j
  pointwise

theorem pay2_apply (a : Vec Ideal S2048x1024 .f32) (x : Vec Ideal S2048x1024 .bf16) (w : Vec Ideal S1024x1024 .f32)
    (j : S2048x1024.Idx) :
    k5_pay2 (F := Ideal) a x w j = a j + blkDot x w j := by
  unfold k5_pay2 blkDot
  idx_vars j
  pointwise

variable (W : Dev nD → Valuation τ sig (Elt Ideal))

/-- The accumulator after the point that closes a column block: the four chunks' products summed. -/
theorem acc_last (c : Dev nD) (t : Fin cfg5.N) (ht : t.val % 4 = 3) (j : S2048x1024.Idx) :
    acc W c t.val t.isLt j = (0 : EReal) + ∑ s : Fin 4,
      blkDot (iblk W c 0 ⟨4 * (t.val / 4) + s.val, Pipeline.run_point_lt_of_flush t ht s⟩)
        (iblk W c 1 ⟨4 * (t.val / 4) + s.val, Pipeline.run_point_lt_of_flush t ht s⟩) j := by
  refine Pipeline.eq_sum_fin_of_reset_step_apply_of_flush (fun n h => acc W c n h) 4 (fun _ => (0 : EReal))
    (fun t j => blkDot (iblk W c 0 t) (iblk W c 1 t) j) (fun t h i => ?_) (fun t h i => ?_) t ht j
  · try dsimp only
    rw [acc_first W c t h]
    exact pay1_apply _ _ _
  · try dsimp only
    rw [acc_later W c t h]
    exact pay2_apply _ _ _ _

theorem idx : ∀ t : Fin cfg5.N, win5_0.index t = ![0, t.val % 4] ∧ win5_1.index t = ![t.val / 4, t.val % 4]
    ∧ win5_2.index t = ![0, t.val / 4] := by decide +kernel

/-- The array after the region: the attention output times the transpose of the output weights. -/
theorem out (c : Dev nD) : (dat W c).arrAt 2 cfg5.N = dot4 (W c main_v5) (W c main_arg5) := by
  refine (dat W c).arrAt_eq_of_covers 2 _ (by decide +kernel) fun t hf y => ?_
  have ht : t.val % 4 = 3 := (flush5_2 t).mp hf
  have hN : t.val < 16 := lt_of_lt_of_eq t.isLt N_5
  rw [after_2]
  refine (acc_last W c t ht _).trans ?_
  rw [zero_add]
  refine Fin.sum_mul_add_congr (n := 1024) fun s k hl => ?_
  have i0 := (idx ⟨4 * (t.val / 4) + s.val, Pipeline.run_point_lt_of_flush t ht s⟩).1
  have i1 := (idx ⟨4 * (t.val / 4) + s.val, Pipeline.run_point_lt_of_flush t ht s⟩).2.1
  have i2 := (idx t).2.2
  have hs : s.val < 4 := s.isLt
  congr 1 <;> blk_ext [iblk, i0, i1, i2]

end Cert.KernelIdeal.V5

end
-- ==== Proof.KernelIdeal.End.lean ====
/- What the kernel leaves in its two results, in terms of its arguments, over the extended reals. -/
module

public import proofs.«01_k».proof.Proof.KernelIdeal.Whole
public import proofs.«01_k».proof.Proof.KernelIdeal.V0
public import proofs.«01_k».proof.Proof.KernelIdeal.V1
public import proofs.«01_k».proof.Proof.KernelIdeal.V2
public import proofs.«01_k».proof.Proof.KernelIdeal.V3
public import proofs.«01_k».proof.Proof.KernelIdeal.V4
public import proofs.«01_k».proof.Proof.KernelIdeal.V5
public import Idealize.ShloMosaic.Lib.Pointwise
public import Idealize.ShloMosaic.Lib.StableHlo.Run

@[expose] public section

set_option maxRecDepth 16384

noncomputable section

namespace Cert.KernelIdeal.End

open Cert.KernelIdeal Cert.KernelIdeal.Gen Cert.KernelIdeal.Whole Cert.KernelIdeal.Spec Cert.KernelIdeal.V0
open Idealize.ShloMosaic Idealize.ShloMosaic.TcCoe Idealize.SL.Sem

/-! ## The tables the host lays down -/

/-- The row of frequencies. -/
def fr : S1x128.Idx → EReal := fun i => Ideal.ofBits .f32 (lit0 (S1x128.rowMajor i))
/-- The row of signs. -/
def sg : S1x128.Idx → EReal := fun i => Ideal.ofBits .f32 (lit1 (S1x128.rowMajor i))
/-- The Hadamard matrix. -/
def hm : S128x128.Idx → EReal := fun i => Ideal.ofBits .f32 (lit2 (S128x128.rowMajor i))

variable (m : (ℓ : Loc nD τ sig) → Buf (Elt Ideal) ℓ) (c : Dev nD)

/-- The hidden states, their first axis dropped. -/
def X : S2048x4096.Idx → EReal := shapeCast S2048x4096 (m ((c : Thread nD τ).loc main_arg0) : S1x2048x4096.Idx → EReal) shapeCasts_S1x2048x4096_S2048x4096
/-- The rotated and scaled queries. -/
def Q : S8x4x2048x128.Idx → EReal := ropeQ (dot4 (X m c) (m ((c : Thread nD τ).loc main_arg2))) (cosQ fr) (sinQ fr sg)
/-- The rotated keys. -/
def K : S2048x1024.Idx → EReal := ropeK (dot1 (X m c) (m ((c : Thread nD τ).loc main_arg3))) (cosT fr) (sinT fr sg)
/-- The values. -/
def V : S2048x1024.Idx → EReal := dot1 (X m c) (m ((c : Thread nD τ).loc main_arg4))

/-! ## The buffers, one region after another -/

theorem w1_cst : W1 m c main_cst = fr := by
  show StableHlo.after hostOps0 (V0 m c) main_cst = _
  simp only [hostOps0]
  after_results_simp <;> rfl
theorem w1_cst_0 : W1 m c main_cst_0 = sg := by
  show StableHlo.after hostOps0 (V0 m c) main_cst_0 = _
  simp only [hostOps0]
  after_results_simp <;> rfl
theorem w1_cst_1 : W1 m c main_cst_1 = hm := by
  show StableHlo.after hostOps0 (V0 m c) main_cst_1 = _
  simp only [hostOps0]
  after_results_simp <;> rfl
theorem w1_v0 : W1 m c main_v0 = X m c := by
  show StableHlo.after hostOps0 (V0 m c) main_v0 = _
  simp only [hostOps0, cast_eq]
  after_results_simp <;> rfl

theorem w1_arg (r : Ref sig .tc) (h : r ∉ hostOps0_W) : W1 m c r = m ((c : Thread nD τ).loc r) := W1_of m c r h

theorem w2_x : W2 m c main_v1_0 = X m c :=
  (Pipeline.afterRegion_arr (R0.dat (W1 m) c) (W1 m c) launch0.win.arr_inj 3).trans ((V0.xb (W1 m) c).trans (w1_v0 m c))
theorem w2_cos : W2 m c main_v1_1 = cosT fr :=
  (Pipeline.afterRegion_arr (R0.dat (W1 m) c) (W1 m c) launch0.win.arr_inj 4).trans ((V0.cos_tab (W1 m) c).trans (congrArg cosT (w1_cst m c)))
theorem w2_sin : W2 m c main_v1_2 = sinT fr sg :=
  (Pipeline.afterRegion_arr (R0.dat (W1 m) c) (W1 m c) launch0.win.arr_inj 5).trans ((V0.sin_tab (W1 m) c).trans (congrArg₂ sinT (w1_cst m c) (w1_cst_0 m c)))
theorem w2_cosq : W2 m c main_v1_3 = cosQ fr :=
  (Pipeline.afterRegion_arr (R0.dat (W1 m) c) (W1 m c) launch0.win.arr_inj 6).trans ((V0.cosq_tab (W1 m) c).trans (congrArg cosQ (w1_cst m c)))
theorem w2_sinq : W2 m c main_v1_4 = sinQ fr sg :=
  (Pipeline.afterRegion_arr (R0.dat (W1 m) c) (W1 m c) launch0.win.arr_inj 7).trans ((V0.sinq_tab (W1 m) c).trans (congrArg₂ sinQ (w1_cst m c) (w1_cst_0 m c)))

theorem w3_q : W3 m c main_v2 = Q m c := by
  refine (Pipeline.afterRegion_arr (R1.dat (W2 m) c) (W2 m c) launch1.win.arr_inj 4).trans ((V1.queries (W2 m) c).trans ?_)
  rw [w2_x, w2_cosq, w2_sinq, W2_of m c main_arg2 (by decide), w1_arg m c main_arg2 (by decide)]
  rfl

theorem w4_k : W4 m c main_v3_0 = K m c := by
  refine (Pipeline.afterRegion_arr (R2.dat (W3 m) c) (W3 m c) launch2.win.arr_inj 5).trans ((V2.keys (W3 m) c).trans ?_)
  rw [W3_of m c main_v1_0 (by decide), W3_of m c main_v1_1 (by decide), W3_of m c main_v1_2 (by decide), w2_x, w2_cos, w2_sin,
    W3_of m c main_arg3 (by decide), W2_of m c main_arg3 (by decide), w1_arg m c main_arg3 (by decide)]
  rfl

theorem w4_v : W4 m c main_v3_1 = V m c := by
  refine (Pipeline.afterRegion_arr (R2.dat (W3 m) c) (W3 m c) launch2.win.arr_inj 6).trans ((V2.vals (W3 m) c).trans ?_)
  rw [W3_of m c main_v1_0 (by decide), w2_x, W3_of m c main_arg4 (by decide), W2_of m c main_arg4 (by decide), w1_arg m c main_arg4 (by decide)]
  rfl

theorem w5_had : W5 m c main_v4 = mulH (K m c) hm := by
  refine (Pipeline.afterRegion_arr (R3.dat (W4 m) c) (W4 m c) launch3.win.arr_inj 2).trans ((V3.had (W4 m) c).trans ?_)
  rw [w4_k, W4_of m c main_cst_1 (by decide), W3_of m c main_cst_1 (by decide), W2_of m c main_cst_1 (by decide), w1_cst_1]

theorem w5_q : W5 m c main_v2 = Q m c := by
  rw [W5_of m c main_v2 (by decide), W4_of m c main_v2 (by decide), w3_q]
theorem w5_k : W5 m c main_v3_0 = K m c := by
  rw [W5_of m c main_v3_0 (by decide), w4_k]
theorem w5_v : W5 m c main_v3_1 = V m c := by
  rw [W5_of m c main_v3_1 (by decide), w4_v]

theorem w6_attn (hq : ∀ g h i j, ∃ y : ℝ, V4.score (Q m c) (K m c) g h i j = (y : EReal)) :
    W6 m c main_v5 = V4.attnO (Q m c) (K m c) (V m c) := by
  have hq' : ∀ g h i j, ∃ y : ℝ, V4.score (W5 m c main_v2) (W5 m c main_v3_0) g h i j = (y : EReal) := by
    rw [w5_q, w5_k]; exact hq
  refine (Pipeline.afterRegion_arr (R4.dat (W5 m) c) (W5 m c) launch4.win.arr_inj 3).trans ((V4.out (W5 m) c hq').trans ?_)
  rw [w5_q, w5_k, w5_v]

theorem w7_out (hq : ∀ g h i j, ∃ y : ℝ, V4.score (Q m c) (K m c) g h i j = (y : EReal)) :
    W7 m c main_v6 = dot4 (V4.attnO (Q m c) (K m c) (V m c)) (m ((c : Thread nD τ).loc main_arg5)) := by
  refine (Pipeline.afterRegion_arr (R5.dat (W6 m) c) (W6 m c) launch5.win.arr_inj 2).trans ((V5.out (W6 m) c).trans ?_)
  rw [w6_attn m c hq, W6_of m c main_arg5 (by decide), W5_of m c main_arg5 (by decide), W4_of m c main_arg5 (by decide), W3_of m c main_arg5 (by decide),
    W2_of m c main_arg5 (by decide), w1_arg m c main_arg5 (by decide)]

theorem w7_had : W7 m c main_v4 = mulH (K m c) hm := by
  rw [W7_of m c main_v4 (by decide), W6_of m c main_v4 (by decide), w5_had]

/-! ## The results -/

/-- The first result is the output projection of the attention. -/
theorem res0 (hq : ∀ g h i j, ∃ y : ℝ, V4.score (Q m c) (K m c) g h i j = (y : EReal)) (i : Fin 2048) (j : Fin 4096) :
    (W8 m c main_v7 : S1x2048x4096.Idx → EReal) (ix3 0 i j) = dot4 (V4.attnO (Q m c) (K m c) (V m c)) (m ((c : Thread nD τ).loc main_arg5)) (ix2 i j) := by
  have e : W8 m c main_v7 = (broadcastInDim S1x2048x4096 ![1, 2] bcast_S2048x4096_S1x2048x4096_1_2 (W7 m c main_v6 : S2048x4096.Idx → EReal) : S1x2048x4096.Idx → EReal) := by
    show StableHlo.after hostOps6 (W7 m c) main_v7 = _
    simp only [hostOps6, cast_eq]
    after_results_simp <;> rfl
  rw [e, w7_out m c hq]
  generalize dot4 _ _ = D
  pointwise

/-- The second result is the keys times the Hadamard matrix, head by head. -/
theorem res1 (i : Fin 2048) (h : Fin 8) (d : Fin 128) :
    (W8 m c main_v8 : S2048x8x128.Idx → EReal) (ix3 i h d) = mulH (K m c) hm (ix2 i ⟨h.val * 128 + d.val, by omega⟩) := by
  have e : W8 m c main_v8 = (shapeCast S2048x8x128 (W7 m c main_v4 : S2048x1024.Idx → EReal) shapeCasts_S2048x1024_S2048x8x128 : S2048x8x128.Idx → EReal) := by
    show StableHlo.after hostOps6 (W7 m c) main_v8 = _
    simp only [hostOps6, cast_eq]
    after_results_simp <;> rfl
  rw [e, w7_had]
  generalize mulH _ _ = D
  pointwise

end Cert.KernelIdeal.End

end
-- ==== Proof.Ref.Stages.lean ====
/- The reference's results as the steps of its text, each step a function of the one before. -/
module

public import proofs.«01_k».proof.Proof.Gen.ReferenceIdeal.Run

@[expose] public section

set_option maxRecDepth 16384

noncomputable section

namespace Cert.ReferenceIdeal.Stages

open Cert.ReferenceIdeal Cert.ReferenceIdeal.Gen
open Idealize.ShloMosaic Idealize.ShloMosaic.TcCoe Idealize.SL.Sem

variable {F : FTy → Type} [FloatOps F]

/-- The hidden states times the query weights, by heads. -/
def proj4 (x : FVec F S1x2048x4096 .f32) (w : FVec F S4096x4096 .f32) : FVec F S2048x32x128 .f32 :=
  shapeCast _ (Host.dotGeneral dot_S2048x4096_S4096x4096_S2048x4096_1_0_0_1_n_n none (shapeCast _ x shapeCasts_S1x2048x4096_S2048x4096)
    (transpose S4096x4096 [1, 0] w transposes_S4096x4096_S4096x4096_1_0)) shapeCasts_S2048x4096_S2048x32x128

/-- The hidden states times the key or value weights, by heads. -/
def proj1 (x : FVec F S1x2048x4096 .f32) (w : FVec F S1024x4096 .f32) : FVec F S2048x8x128 .f32 :=
  shapeCast _ (Host.dotGeneral dot_S2048x4096_S4096x1024_S2048x1024_1_0_0_1_n_n none (shapeCast _ x shapeCasts_S1x2048x4096_S2048x4096)
    (transpose S4096x1024 [1, 0] w transposes_S1024x4096_S4096x1024_1_0)) shapeCasts_S2048x1024_S2048x8x128

/-- Half a row of angles: the positions times a table of frequencies. -/
def half (p : IVec S1x2048 32) (fr : FVec F S64 .f32) : FVec F S2048x64 .f32 :=
  mulf (broadcastInDim S2048x64 ![0, 1] bcast_S2048x1_S2048x64_0_1 (broadcastInDim S2048x1 ![0] bcast_S2048_S2048x1_0
      (sitofp .f32 (shapeCast _ p shapeCasts_S1x2048_S2048))))
    (broadcastInDim S2048x64 ![0, 1] bcast_S1x64_S2048x64_0_1 (broadcastInDim S1x64 ![1] bcast_S64_S1x64_1 fr))

/-- The angles: the half twice. -/
def emb (h : FVec F S2048x64 .f32) : FVec F S2048x128 .f32 :=
  concatenate S2048x128 1 [⟨S2048x64, h⟩, ⟨S2048x64, h⟩] concatenates_S2048x64_S2048x64_S2048x128_d1

/-- The query heads rotated. -/
def rope4 (y : FVec F S2048x32x128 .f32) (e : FVec F S2048x128 .f32) : FVec F S2048x32x128 .f32 :=
  addf (mulf y (broadcastInDim S2048x32x128 ![0, 1, 2] bcast_S2048x1x128_S2048x32x128_0_1_2
      (broadcastInDim S2048x1x128 ![0, 2] bcast_S2048x128_S2048x1x128_0_2 (Host.cos e))))
    (mulf (concatenate S2048x32x128 2 [⟨S2048x32x64, (Host.negf (extractStridedSlice S2048x32x64 ![0, 0, 64] y slices_S2048x32x128_S2048x32x64_0_0_64))⟩,
        ⟨S2048x32x64, (extractStridedSlice S2048x32x64 ![0, 0, 0] y slices_S2048x32x128_S2048x32x64_0_0_0)⟩] concatenates_S2048x32x64_S2048x32x64_S2048x32x128_d2)
      (broadcastInDim S2048x32x128 ![0, 1, 2] bcast_S2048x1x128_S2048x32x128_0_1_2
        (broadcastInDim S2048x1x128 ![0, 2] bcast_S2048x128_S2048x1x128_0_2 (Host.sin e))))

/-- The key heads rotated. -/
def rope1 (y : FVec F S2048x8x128 .f32) (e : FVec F S2048x128 .f32) : FVec F S2048x8x128 .f32 :=
  addf (mulf y (broadcastInDim S2048x8x128 ![0, 1, 2] bcast_S2048x1x128_S2048x8x128_0_1_2
      (broadcastInDim S2048x1x128 ![0, 2] bcast_S2048x128_S2048x1x128_0_2 (Host.cos e))))
    (mulf (concatenate S2048x8x128 2 [⟨S2048x8x64, (Host.negf (extractStridedSlice S2048x8x64 ![0, 0, 64] y slices_S2048x8x128_S2048x8x64_0_0_64))⟩,
        ⟨S2048x8x64, (extractStridedSlice S2048x8x64 ![0, 0, 0] y slices_S2048x8x128_S2048x8x64_0_0_0)⟩] concatenates_S2048x8x64_S2048x8x64_S2048x8x128_d2)
      (broadcastInDim S2048x8x128 ![0, 1, 2] bcast_S2048x1x128_S2048x8x128_0_1_2
        (broadcastInDim S2048x1x128 ![0, 2] bcast_S2048x128_S2048x1x128_0_2 (Host.sin e))))

/-- The first table of frequencies, of the queries. -/
def frQ : FVec F S64 .f32 := fun i => FloatOps.ofBits .f32 (lit0 (S64.rowMajor i))
/-- The second table of frequencies, of the keys. -/
def frK : FVec F S64 .f32 := fun i => FloatOps.ofBits .f32 (lit1 (S64.rowMajor i))
/-- The Hadamard matrix. -/
def hm : FVec F S128x128 .f32 := fun i => FloatOps.ofBits .f32 (lit2 (S128x128.rowMajor i))

/-- The rotated queries. -/
def qs (x : FVec F S1x2048x4096 .f32) (p : IVec S1x2048 32) (w : FVec F S4096x4096 .f32) : FVec F S2048x32x128 .f32 :=
  rope4 (proj4 x w) (emb (half p frQ))
/-- The rotated keys. -/
def ks (x : FVec F S1x2048x4096 .f32) (p : IVec S1x2048 32) (w : FVec F S1024x4096 .f32) : FVec F S2048x8x128 .f32 :=
  rope1 (proj1 x w) (emb (half p frK))

/-- The keys times the Hadamard matrix: the second result. -/
def had (k : FVec F S2048x8x128 .f32) : FVec F S2048x8x128 .f32 :=
  Host.dotGeneral dot_S2048x8x128_S128x128_S2048x8x128_2_0_01_1_n_n none k hm

/-- Keys or values once for each query head. -/
def rep (y : FVec F S2048x8x128 .f32) : FVec F S32x2048x128 .f32 :=
  transpose S32x2048x128 [1, 0, 2] (shapeCast _ (broadcastInDim S2048x8x4x128 ![0, 1, 3] bcast_S2048x8x128_S2048x8x4x128_0_1_3 y)
    shapeCasts_S2048x8x4x128_S2048x32x128) transposes_S2048x32x128_S32x2048x128_1_0_2

/-- The scores over the square root of the head dimension. -/
def sc (q k : FVec F S32x2048x128 .f32) : FVec F S32x2048x2048 .f32 :=
  Host.divf (Host.dotGeneral dot_S32x2048x128_S32x2048x128_S32x2048x2048_2_2_1_1_0_0 none q k)
    (broadcastInDim S32x2048x2048 ![] bcast_S_S32x2048x2048 (Host.sqrt (constant S_ .f32 0x43000000#32)))

/-- Where a query may look at a key. -/
def causal : IVec S2048x2048 1 :=
  select (cmpi .sge (addi (iotaInDim S2048x2048 32 0) (broadcastInDim S2048x2048 ![] bcast_S_S2048x2048 (constantI S_ 32 0#32))) (iotaInDim S2048x2048 32 1))
    (broadcastInDim S2048x2048 ![] bcast_S_S2048x2048 (constantI S_ 1 1#1)) (broadcastInDim S2048x2048 ![] bcast_S_S2048x2048 (constantI S_ 1 0#1))

/-- The scores masked. -/
def msk (s : FVec F S32x2048x2048 .f32) : FVec F S32x2048x2048 .f32 :=
  select (broadcastInDim S32x2048x2048 ![0, 1, 2] bcast_S1x2048x2048_S32x2048x2048_0_1_2 (broadcastInDim S1x2048x2048 ![1, 2] bcast_S2048x2048_S1x2048x2048_1_2 causal))
    s (broadcastInDim S32x2048x2048 ![] bcast_S_S32x2048x2048 (id (constant S_ .f32 0xFF800000#32)))

/-- The largest score of each row. -/
def top (s : FVec F S32x2048x2048 .f32) : FVec F S32x2048 .f32 :=
  maximumf (broadcastInDim S32x2048 ![] bcast_S_S32x2048 (constant S_ .f32 0xFF800000#32))
    (Host.reduce FloatOps.maximumf s (constant S_ .f32 0xFF800000#32) reducesTo_S32x2048x2048_S32x2048_d2 h_S_)

/-- A value for each row, over the row. -/
def along (r : FVec F S32x2048 .f32) : FVec F S32x2048x2048 .f32 :=
  broadcastInDim S32x2048x2048 ![0, 1, 2] bcast_S32x2048x1_S32x2048x2048_0_1_2 (broadcastInDim S32x2048x1 ![0, 1] bcast_S32x2048_S32x2048x1_0_1 r)

/-- The exponentials of the scores less the row's largest. -/
def ex (s : FVec F S32x2048x2048 .f32) : FVec F S32x2048x2048 .f32 := Host.exp (subf s (along (top s)))

/-- The weights: each exponential over the row's sum. -/
def wts (e : FVec F S32x2048x2048 .f32) : FVec F S32x2048x2048 .f32 :=
  Host.divf e (along (Host.reduceAdd e (constant S_ .f32 0x00000000#32) reducesTo_S32x2048x2048_S32x2048_d2 h_S_))

/-- The weighted values, heads side by side. -/
def ctx (w : FVec F S32x2048x2048 .f32) (v : FVec F S32x2048x128 .f32) : FVec F S1x2048x4096 .f32 :=
  shapeCast _ (transpose S2048x32x128 [1, 0, 2] (Host.dotGeneral dot_S32x2048x2048_S32x2048x128_S32x2048x128_2_1_1_2_0_0 none w v)
    transposes_S32x2048x128_S2048x32x128_1_0_2) shapeCasts_S2048x32x128_S1x2048x4096

/-- The output projection: the first result. -/
def prj (a : FVec F S1x2048x4096 .f32) (w : FVec F S4096x4096 .f32) : FVec F S1x2048x4096 .f32 :=
  Host.dotGeneral dot_S1x2048x4096_S4096x4096_S1x2048x4096_2_0_01_1_n_n none a (transpose S4096x4096 [1, 0] w transposes_S4096x4096_S4096x4096_1_0)

/-- The masked scores of rotated queries and keys. -/
def scores (q : FVec F S2048x32x128 .f32) (k : FVec F S2048x8x128 .f32) : FVec F S32x2048x2048 .f32 :=
  msk (sc (transpose S32x2048x128 [1, 0, 2] q transposes_S2048x32x128_S32x2048x128_1_0_2) (rep k))

variable (m : (ℓ : Loc nD τ sig) → Buf (Elt F) ℓ) (c : Dev nD)

/-- The first result is the steps composed. -/
theorem out_eq : Value.res_main_v82 m c = prj (ctx (wts (ex (scores (qs (m ((c.tc : Thread nD τ).loc main_arg0)) (m ((c.tc : Thread nD τ).loc main_arg1)) (m ((c.tc : Thread nD τ).loc main_arg2)))
      (ks (m ((c.tc : Thread nD τ).loc main_arg0)) (m ((c.tc : Thread nD τ).loc main_arg1)) (m ((c.tc : Thread nD τ).loc main_arg3))))))
      (rep (proj1 (m ((c.tc : Thread nD τ).loc main_arg0)) (m ((c.tc : Thread nD τ).loc main_arg4))))) (m ((c.tc : Thread nD τ).loc main_arg5)) := by
  unfold Value.res_main_v82
  rfl

/-- From any memory with zero counters the reference ends with its two results at the steps composed and its arguments as they were. -/
theorem run (ρ : Dev nD → PrngReg) : θ_run defs (onTc (τ := τ) (main (F := F))) ⟨m, fun _ => 0, ρ⟩ fun r => ∀ c : Dev nD,
    r.2.mem ((c.tc : Thread nD τ).loc main_v82) = prj (ctx (wts (ex (scores (qs (m ((c.tc : Thread nD τ).loc main_arg0)) (m ((c.tc : Thread nD τ).loc main_arg1)) (m ((c.tc : Thread nD τ).loc main_arg2)))
      (ks (m ((c.tc : Thread nD τ).loc main_arg0)) (m ((c.tc : Thread nD τ).loc main_arg1)) (m ((c.tc : Thread nD τ).loc main_arg3))))))
      (rep (proj1 (m ((c.tc : Thread nD τ).loc main_arg0)) (m ((c.tc : Thread nD τ).loc main_arg4))))) (m ((c.tc : Thread nD τ).loc main_arg5))
    ∧ r.2.mem ((c.tc : Thread nD τ).loc main_v51) = had (ks (m ((c.tc : Thread nD τ).loc main_arg0)) (m ((c.tc : Thread nD τ).loc main_arg1)) (m ((c.tc : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨(h c).1.trans (out_eq m c), (h c).2.1, (h c).2.2⟩) (Value.run m ρ)

end Cert.ReferenceIdeal.Stages

end
-- ==== Proof.Pre.lean ====
/- What the precondition says: the positions count up from zero, and three of the arrays hold real numbers. -/
module

public import proofs.«01_k».proof.Proof.Gen.Pre_prefill
public import Idealize.ShloMosaic.Lib.ReduceAll
public import Idealize.ShloMosaic.Lib.Pointwise
public import Idealize.ShloMosaic.Lib.ValueIdx

@[expose] public section

noncomputable section

namespace Cert.Pre_prefill

open Idealize.ShloMosaic Idealize.ShloMosaic.TcCoe

/-- The word of the float infinity is the top of the extended reals. -/
theorem word_top : Ideal.ofBits .f32 0x7F800000#32 = (⊤ : EReal) := by
  unfold Ideal.ofBits Ideal.ieee
  simp

/-- An extended real whose absolute value is below infinity is a real. -/
theorem real_of_abs (x : EReal) (h : Ideal.cmp .olt (max x (-x)) (Ideal.ofBits .f32 0x7F800000#32) = 1#1) : ∃ r : ℝ, x = (r : EReal) := by
  rw [word_top] at h
  have h' : max x (-x) < ⊤ := by
    by_contra hn
    unfold Ideal.cmp at h
    simp only [decide_eq_false hn] at h
    exact absurd h (by decide)
  refine ⟨x.toReal, (EReal.coe_toReal (fun e => ?_) (fun e => ?_)).symm⟩
  · subst e; simp at h'
  · subst e; simp at h'

instance : Subsingleton S_.Idx := ⟨fun a b => funext fun d => d.elim0⟩

/-- An array all of whose absolute values are below infinity is real throughout. -/
theorem all_real {s : Shape} {axes : List (Fin s.rank)} (x : FVec Ideal s .f32) (b : S_.BroadcastsInDim s (![] : Fin 0 → Fin s.rank)) (hr : s.ReducesTo axes S_) (hu : 0 < S_.numel)
    (h : Host.reduce IntOp.andi (cmpf .olt (Host.absf x) (broadcastInDim s ![] b (constant S_ .f32 0x7F800000#32)) : IVec s 1) (constantI S_ 1 1#1) hr hu ix0 = 1#1)
    (i : s.Idx) : ∃ r : ℝ, (x i : EReal) = (r : EReal) :=
  real_of_abs (x i) (Host.reduce_andi_all _ _ hr hu _ h i)

variable {a0 : FVec Ideal S1x2048x4096 .f32} {a1 : IVec S1x2048 32} {a2 : FVec Ideal S4096x4096 .f32} {a3 a4 : FVec Ideal S1024x4096 .f32} {a5 : FVec Ideal S4096x4096 .f32}

/-- The precondition, taken apart. -/
theorem parts (h : fn (F := Ideal) a0 a1 a2 a3 a4 a5 = fun _ => 1#1) :
    (∀ i : Fin 2048, a1 (ix2 0 i) = BitVec.ofNat 32 i.val) ∧ (∀ i, ∃ r : ℝ, (a0 i : EReal) = (r : EReal))
      ∧ (∀ i, ∃ r : ℝ, (a2 i : EReal) = (r : EReal)) ∧ (∀ i, ∃ r : ℝ, (a3 i : EReal) = (r : EReal)) := by
  have e := congrFun h ix0
  dsimp only [fn, fn_part1] at e
  obtain ⟨e', h3⟩ := IntOp.andi_eq_one.mp e
  obtain ⟨e'', h2⟩ := IntOp.andi_eq_one.mp e'
  obtain ⟨h1, h0⟩ := IntOp.andi_eq_one.mp e''
  clear e e' e''
  refine ⟨fun i => ?_, all_real a0 Facts.bcast_S_S1x2048x4096 Facts.reducesTo_S1x2048x4096_S_d0_1_2 Facts.h_S_ h0,
    all_real a2 Facts.bcast_S_S4096x4096 Facts.reducesTo_S4096x4096_S_d0_1 Facts.h_S_ h2, all_real a3 Facts.bcast_S_S1024x4096 Facts.reducesTo_S1024x4096_S_d0_1 Facts.h_S_ h3⟩
  have hi := IntOp.cmpi_eq.mp (Host.reduce_andi_all _ _ Facts.reducesTo_S2048_S_d0 Facts.h_S_ _ h1 (ix1 i))
  have hl : shapeCast S2048 a1 Facts.shapeCasts_S1x2048_S2048 (ix1 i) = a1 (ix2 0 i) := by pointwise
  exact hl.symm.trans hi

end Cert.Pre_prefill

end
-- ==== Proof.Ref.Read.lean ====
/- The reference's steps read at an index, over the extended reals. -/
module

public import proofs.«01_k».proof.Proof.Ref.Stages
public import Idealize.ShloMosaic.Lib.Pointwise
public import Idealize.ShloMosaic.Lib.ValueIdx
public import Idealize.ShloMosaic.Lib.WordCmp
public import Idealize.ShloMosaic.Lib.Pipeline.ValueKit

@[expose] public section

set_option maxRecDepth 16384

noncomputable section

namespace Cert.ReferenceIdeal.Read

open Cert.ReferenceIdeal Cert.ReferenceIdeal.Gen Cert.ReferenceIdeal.Stages
open Idealize.ShloMosaic Idealize.ShloMosaic.TcCoe Idealize.SL.Sem

theorem word_bot : Ideal.ofBits .f32 0xFF800000#32 = (⊥ : EReal) := by
  unfold Ideal.ofBits Ideal.ieee
  simp

theorem word_128 : Ideal.ofBits .f32 0x43000000#32 = ((128 : ℝ) : EReal) := by
  unfold Ideal.ofBits Ideal.ieee
  simp
  rw [← EReal.coe_mul]
  norm_num

theorem const_bot : (constant (F := Ideal) S_ .f32 0xFF800000#32 : FVec Ideal S_ .f32) = fun _ => (⊥ : EReal) := funext fun _ => word_bot

theorem max_bot (x : FVec Ideal S32x2048 .f32) (j : S32x2048.Idx) :
    maximumf (F := Ideal) (broadcastInDim S32x2048 ![] bcast_S_S32x2048 ((fun _ => (⊥ : EReal)) : FVec Ideal S_ .f32)) x j = x j := max_eq_right bot_le

/-- The maximum along the last axis, at any extents. -/
theorem rows_max {a b n : ℕ} (x : FVec Ideal ⟨3, ![a, b, n]⟩ .f32) (v : FVec Ideal S_ .f32)
    (h : (⟨3, ![a, b, n]⟩ : Shape).ReducesTo [2] ⟨2, ![a, b]⟩) (hu : 0 < S_.numel) (p : Fin a) (q : Fin b) :
    Host.reduce FloatOps.maximumf x v h hu (ix2 p q) = Finset.fold (max : EReal → EReal → EReal) (v (Shape.Idx.first hu)) (fun c : Fin n => (x (ix3 p q c) : EReal)) Finset.univ := by
  rw [Host.reduce_eq_fold]
  exact h.fold_fiber_r3_a2 (ix2 p q) (max : EReal → EReal → EReal) _ _

theorem proj4_apply (x : FVec Ideal S1x2048x4096 .f32) (w : FVec Ideal S4096x4096 .f32) (i : Fin 2048) (h : Fin 32) (d : Fin 128) :
    proj4 (F := Ideal) x w (ix3 i h d) = (∑ k : Fin 4096, x (ix3 0 i k) * w (ix2 ⟨h.val * 128 + d.val, by omega⟩ k) : EReal) := by
  unfold proj4
  pointwise

theorem proj1_apply (x : FVec Ideal S1x2048x4096 .f32) (w : FVec Ideal S1024x4096 .f32) (i : Fin 2048) (h : Fin 8) (d : Fin 128) :
    proj1 (F := Ideal) x w (ix3 i h d) = (∑ k : Fin 4096, x (ix3 0 i k) * w (ix2 ⟨h.val * 128 + d.val, by omega⟩ k) : EReal) := by
  unfold proj1
  pointwise

theorem half_apply (p : IVec S1x2048 32) (fr : FVec Ideal S64 .f32) (i : Fin 2048) (d : Fin 64) :
    half (F := Ideal) p fr (ix2 i d) = (((p (ix2 0 i)).toInt : ℝ) : EReal) * fr (ix1 d) := by
  unfold half
  pointwise
  rfl

theorem emb_apply (h : FVec Ideal S2048x64 .f32) (i : Fin 2048) (d : Fin 128) :
    emb (F := Ideal) h (ix2 i d) = h (ix2 i ⟨d.val % 64, by omega⟩) := by
  unfold emb
  pointwise
  split
  · exact congrArg h (congrArg (ix2 i) (Fin.ext (by dsimp only; omega)))
  · exact congrArg h (congrArg (ix2 i) (Fin.ext (by dsimp only; omega)))

theorem rope4_apply (y : FVec Ideal S2048x32x128 .f32) (e : FVec Ideal S2048x128 .f32) (i : Fin 2048) (h : Fin 32) (d : Fin 128) :
    rope4 (F := Ideal) y e (ix3 i h d) = (y (ix3 i h d) * Ideal.cos (e (ix2 i d)) + (if d.val < 64 then - y (ix3 i h ⟨(d.val + 64) % 128, by omega⟩) else y (ix3 i h ⟨(d.val + 64) % 128, by omega⟩)) * Ideal.sin (e (ix2 i d)) : EReal) := by
  unfold rope4
  pointwise
  refine congrArg (fun z : EReal => y (ix3 i h d) * Ideal.cos (e (ix2 i d)) + z * Ideal.sin (e (ix2 i d))) ?_
  split
  · exact congrArg (fun z : Fin 128 => (- y (ix3 i h z) : EReal)) (Fin.ext (by dsimp only; omega))
  · exact congrArg (fun z : Fin 128 => (y (ix3 i h z) : EReal)) (Fin.ext (by dsimp only; omega))

theorem rope1_apply (y : FVec Ideal S2048x8x128 .f32) (e : FVec Ideal S2048x128 .f32) (i : Fin 2048) (h : Fin 8) (d : Fin 128) :
    rope1 (F := Ideal) y e (ix3 i h d) = (y (ix3 i h d) * Ideal.cos (e (ix2 i d)) + (if d.val < 64 then - y (ix3 i h ⟨(d.val + 64) % 128, by omega⟩) else y (ix3 i h ⟨(d.val + 64) % 128, by omega⟩)) * Ideal.sin (e (ix2 i d)) : EReal) := by
  unfold rope1
  pointwise
  refine congrArg (fun z : EReal => y (ix3 i h d) * Ideal.cos (e (ix2 i d)) + z * Ideal.sin (e (ix2 i d))) ?_
  split
  · exact congrArg (fun z : Fin 128 => (- y (ix3 i h z) : EReal)) (Fin.ext (by dsimp only; omega))
  · exact congrArg (fun z : Fin 128 => (y (ix3 i h z) : EReal)) (Fin.ext (by dsimp only; omega))

theorem rep_apply (y : FVec Ideal S2048x8x128 .f32) (h : Fin 32) (i : Fin 2048) (d : Fin 128) :
    rep (F := Ideal) y (ix3 h i d) = y (ix3 i ⟨h.val / 4, by omega⟩ d) := by
  unfold rep
  pointwise

theorem had_apply (k : FVec Ideal S2048x8x128 .f32) (i : Fin 2048) (h : Fin 8) (d : Fin 128) :
    had (F := Ideal) k (ix3 i h d) = (∑ e : Fin 128, k (ix3 i h e) * hm (F := Ideal) (ix2 e d) : EReal) := by
  unfold had
  pointwise

theorem sc_apply (q k : FVec Ideal S32x2048x128 .f32) (h : Fin 32) (i c : Fin 2048) :
    sc (F := Ideal) q k (ix3 h i c) = Ideal.div (∑ e : Fin 128, q (ix3 h i e) * k (ix3 h c e) : EReal) ((Real.sqrt 128 : ℝ) : EReal) := by
  unfold sc
  pointwise
  refine congrArg (Ideal.div _) ?_
  rw [word_128, Ideal.sqrt_coe, if_neg (by norm_num)]

theorem msk_apply (s : FVec Ideal S32x2048x2048 .f32) (h : Fin 32) (i c : Fin 2048) :
    msk (F := Ideal) s (ix3 h i c) = if c.val ≤ i.val then s (ix3 h i c) else (⊥ : EReal) := by
  unfold msk causal
  pointwise
  show Scalar.select _ _ (Ideal.ofBits .f32 0xFF800000#32) = _
  rw [word_bot]
  have hz : IntOp.addi (BitVec.ofNat 32 i.val) 0#32 = BitVec.ofNat 32 i.val := BitVec.add_zero _
  have hi : i.val < 2 ^ (32 - 1) := by have := i.isLt; omega
  have hj : c.val < 2 ^ (32 - 1) := by have := c.isLt; omega
  rw [hz]
  by_cases hc : c.val ≤ i.val
  · rw [if_pos hc, (WordCmp.cmpi_sge_ofNat_eq_one_iff hi hj).mpr hc]
    rfl
  · rw [if_neg hc, (WordCmp.cmpi_sge_ofNat_eq_zero_iff hi hj).mpr hc]
    rfl

theorem top_apply (s : FVec Ideal S32x2048x2048 .f32) (h : Fin 32) (i : Fin 2048) :
    top (F := Ideal) s (ix2 h i) = Finset.fold (max : EReal → EReal → EReal) ⊥ (fun c : Fin 2048 => s (ix3 h i c)) Finset.univ := by
  unfold top
  rw [const_bot]
  exact (max_bot _ _).trans (rows_max s _ reducesTo_S32x2048x2048_S32x2048_d2 h_S_ h i)

theorem ex_apply (s : FVec Ideal S32x2048x2048 .f32) (h : Fin 32) (i c : Fin 2048) :
    ex (F := Ideal) s (ix3 h i c) = Ideal.exp (s (ix3 h i c) - top (F := Ideal) s (ix2 h i) : EReal) := by
  unfold ex along
  pointwise

theorem wts_apply (e : FVec Ideal S32x2048x2048 .f32) (h : Fin 32) (i c : Fin 2048) :
    wts (F := Ideal) e (ix3 h i c) = Ideal.div (e (ix3 h i c)) (∑ c : Fin 2048, e (ix3 h i c) : EReal) := by
  unfold wts along
  pointwise

theorem ctx_apply (w : FVec Ideal S32x2048x2048 .f32) (v : FVec Ideal S32x2048x128 .f32) (i : Fin 2048) (j : Fin 4096) :
    ctx (F := Ideal) w v (ix3 0 i j) = (∑ c : Fin 2048, w (ix3 ⟨j.val / 128, by omega⟩ i c) * v (ix3 ⟨j.val / 128, by omega⟩ c ⟨j.val % 128, by omega⟩) : EReal) := by
  unfold ctx
  pointwise

theorem prj_apply (a : FVec Ideal S1x2048x4096 .f32) (w : FVec Ideal S4096x4096 .f32) (i : Fin 2048) (j : Fin 4096) :
    prj (F := Ideal) a w (ix3 0 i j) = (∑ k : Fin 4096, a (ix3 0 i k) * w (ix2 j k) : EReal) := by
  unfold prj
  pointwise

end Cert.ReferenceIdeal.Read

end
-- ==== Proof.Row.lean ====
/- One row of a softmax over the extended reals is the mean under powers of two of the same scores in units of log 2. -/
module

public import proofs.«01_k».proof.Proof.Online

@[expose] public section

noncomputable section

namespace Cert.Row

open Cert.Online Idealize.ShloMosaic

variable {n : ℕ}

/-- The largest of masked real scores is real when one is not masked. -/
theorem fold_real (s : Fin n → EReal) (ht : ∀ c, s c ≠ ⊤) (c₀ : Fin n) (h₀ : s c₀ ≠ ⊥) :
    ∃ μ : ℝ, Finset.fold (max : EReal → EReal → EReal) ⊥ s Finset.univ = (μ : EReal) := by
  have e : Finset.fold (max : EReal → EReal → EReal) ⊥ s Finset.univ = Finset.univ.sup s := rfl
  rw [e]
  have hb : Finset.univ.sup s ≠ ⊥ := fun h => h₀ (le_bot_iff.mp (h ▸ Finset.le_sup (f := s) (Finset.mem_univ c₀)))
  have hT : Finset.univ.sup s ≠ ⊤ := ne_of_lt ((Finset.sup_lt_iff bot_lt_top).mpr fun c _ => lt_top_iff_ne_top.mpr (ht c))
  exact ⟨_, (EReal.coe_toReal hT hb).symm⟩

/-- The exponential of a real score is a power of two. -/
theorem exp_two (r : ℝ) : Real.exp r = (2 : ℝ) ^ (r / Real.log 2) := by
  have h : Real.log 2 ≠ 0 := (Real.log_pos (by norm_num)).ne'
  rw [Real.rpow_def_of_pos (by norm_num), mul_div_cancel₀ _ h]

/-- A masked score's exponential, less a real maximum. -/
theorem exp_sub (p : Prop) [Decidable p] (r μ : ℝ) :
    Ideal.exp ((if p then ((r : ℝ) : EReal) else ⊥) - (μ : EReal))
      = ((pw (if p then ((r / Real.log 2 : ℝ) : EReal) else ⊥) * Real.exp (-μ) : ℝ) : EReal) := by
  by_cases h : p
  · rw [if_pos h, if_pos h, ← EReal.coe_sub, Ideal.exp_coe, pw_coe, ← exp_two, ← Real.exp_add, sub_eq_add_neg]
  · rw [if_neg h, if_neg h, EReal.bot_sub, Ideal.exp_bot, pw_bot, zero_mul]
    rfl

/-- The softmax weights of masked real scores, applied to values: the mean under powers of two. -/
theorem softmax (f : Fin n → ℝ) (P : Fin n → Prop) [DecidablePred P] (V : Fin n → EReal) (c₀ : Fin n) (h₀ : P c₀) (s : Fin n → EReal)
    (hs : ∀ c, s c = if P c then ((f c : ℝ) : EReal) else ⊥) :
    ∑ c, Ideal.div (Ideal.exp (s c - Finset.fold (max : EReal → EReal → EReal) ⊥ s Finset.univ))
        (∑ d, Ideal.exp (s d - Finset.fold (max : EReal → EReal → EReal) ⊥ s Finset.univ)) * V c
      = mean (fun c => pw (if P c then ((f c / Real.log 2 : ℝ) : EReal) else ⊥)) V := by
  obtain ⟨μ, hμ⟩ := fold_real s (fun c => by rw [hs]; split_ifs; exacts [EReal.coe_ne_top _, bot_ne_top]) c₀
    (by rw [hs, if_pos h₀]; exact EReal.coe_ne_bot _)
  rw [hμ]
  have e : ∀ c, Ideal.exp (s c - (μ : EReal)) = ((pw (if P c then ((f c / Real.log 2 : ℝ) : EReal) else ⊥) * Real.exp (-μ) : ℝ) : EReal) :=
    fun c => by rw [hs, exp_sub]
  simp only [e]
  rw [← coe_sum, ← Finset.sum_mul]
  refine sum_div _ V _ (Real.exp_pos _) (Finset.sum_pos' (fun c _ => pw_nonneg _) ⟨c₀, Finset.mem_univ _, ?_⟩)
  rw [if_pos h₀, pw_coe]
  exact Real.rpow_pos_of_pos (by norm_num) _

end Cert.Row

end
-- ==== Proof.Tables.lean ====
/- The two programs' literal tables against each other: the same frequencies, the same matrix; and the kernel's table of signs. -/
module

public import proofs.«01_k».proof.Proof.Gen.KernelIdeal.Launch
public import proofs.«01_k».proof.Proof.Gen.ReferenceIdeal.Run
public import Idealize.ShloMosaic.Lib.Pointwise
public import Idealize.ShloMosaic.Lib.ValueIdx

@[expose] public section

set_option maxRecDepth 16384

noncomputable section

namespace Cert.Tables

open Idealize.ShloMosaic Idealize.ShloMosaic.TcCoe

/-- The kernel's row of frequencies is the reference's half row twice. -/
theorem freq (d : Fin 128) : Cert.KernelIdeal.lit0 d = Cert.ReferenceIdeal.lit0 ⟨d.val % 64, by omega⟩ := by
  revert d; decide +kernel

/-- The reference's two half rows are one. -/
theorem freq' (d : Fin 64) : Cert.ReferenceIdeal.lit1 d = Cert.ReferenceIdeal.lit0 d := by
  revert d; decide +kernel

/-- The signs: minus one in the first half, one in the second. -/
theorem sign (d : Fin 128) : Cert.KernelIdeal.lit1 d = if d.val < 64 then 0xBF800000#32 else 0x3F800000#32 := by
  revert d; decide +kernel

/-- The two Hadamard matrices are one. -/
theorem mat : Cert.KernelIdeal.lit2t = Cert.ReferenceIdeal.lit2t := rfl

/-- No frequency is the word of an infinity or of no number. -/
theorem freq_exp (d : Fin 64) : ((Cert.ReferenceIdeal.lit0 d).extractLsb' 23 8).toNat ≠ 2 ^ 8 - 1 := by
  revert d; decide +kernel

/-- Every frequency is a real number. -/
theorem freq_real (d : Fin 64) : ∃ r : ℝ, Ideal.ofBits .f32 (Cert.ReferenceIdeal.lit0 d) = (r : EReal) := by
  have h := freq_exp d
  generalize Cert.ReferenceIdeal.lit0 d = w at h
  unfold Ideal.ofBits Ideal.ieee
  dsimp only
  rw [if_neg h]
  split
  · exact ⟨_, rfl⟩
  · exact ⟨_, rfl⟩

/-- The word of one. -/
theorem word_one : Ideal.ofBits .f32 0x3F800000#32 = ((1 : ℝ) : EReal) := by
  unfold Ideal.ofBits Ideal.ieee
  simp
  rw [← EReal.coe_mul]
  norm_num

/-- The word of minus one. -/
theorem word_neg_one : Ideal.ofBits .f32 0xBF800000#32 = ((-1 : ℝ) : EReal) := by
  unfold Ideal.ofBits Ideal.ieee
  simp
  rw [← EReal.coe_mul]
  norm_num

end Cert.Tables

end
-- ==== Proof.Equal.lean ====
/- The kernel's functions against the reference's, array by array, where the positions count up from zero and the hidden
   states and the query and key weights are real. -/
module

public import proofs.«01_k».proof.Proof.KernelIdeal.V0
public import proofs.«01_k».proof.Proof.KernelIdeal.V4
public import proofs.«01_k».proof.Proof.KernelIdeal.End
public import proofs.«01_k».proof.Proof.Ref.Read
public import proofs.«01_k».proof.Proof.Row
public import proofs.«01_k».proof.Proof.Tables

@[expose] public section

set_option maxRecDepth 16384

noncomputable section

namespace Cert.Equal

open Cert.KernelIdeal.Spec Cert.KernelIdeal.V0 Cert.ReferenceIdeal.Stages Cert.ReferenceIdeal.Read
open Cert.KernelIdeal.V4 (kcol score attn attnO)
open Cert.KernelIdeal.End (fr sg)
open Cert.Online Cert.ReferenceIdeal
open Idealize.ShloMosaic Idealize.ShloMosaic.TcCoe

/-! ## The angles and the signs -/

theorem fr_apply (d : Fin 128) : fr (ix2 0 d) = Ideal.ofBits .f32 (lit0 ⟨d.val % 64, by omega⟩) := by
  have e : Cert.KernelIdeal.S1x128.rowMajor (ix2 0 d) = d := Fin.ext ((Shape.rowMajor_val_two _).trans (by show 0 * 128 + d.val = d.val; omega))
  show Ideal.ofBits .f32 (Cert.KernelIdeal.lit0 (Cert.KernelIdeal.S1x128.rowMajor (ix2 0 d))) = _
  rw [e, Cert.Tables.freq]

theorem sg_apply (d : Fin 128) : sg (ix2 0 d) = if d.val < 64 then (((-1 : ℝ)) : EReal) else ((1 : ℝ) : EReal) := by
  have e : Cert.KernelIdeal.S1x128.rowMajor (ix2 0 d) = d := Fin.ext ((Shape.rowMajor_val_two _).trans (by show 0 * 128 + d.val = d.val; omega))
  show Ideal.ofBits .f32 (Cert.KernelIdeal.lit1 (Cert.KernelIdeal.S1x128.rowMajor (ix2 0 d))) = _
  rw [e, Cert.Tables.sign]
  split_ifs
  · exact Cert.Tables.word_neg_one
  · exact Cert.Tables.word_one

theorem frQ_apply (d : Fin 64) : frQ (F := Ideal) (ix1 d) = Ideal.ofBits .f32 (lit0 d) := by
  have e : S64.rowMajor (ix1 d) = d := Fin.ext (Shape.rowMajor_val_one _)
  show Ideal.ofBits .f32 (lit0 (S64.rowMajor (ix1 d))) = _
  rw [e]

theorem frK_apply (d : Fin 64) : frK (F := Ideal) (ix1 d) = Ideal.ofBits .f32 (lit0 d) := by
  have e : S64.rowMajor (ix1 d) = d := Fin.ext (Shape.rowMajor_val_one _)
  show Ideal.ofBits .f32 (lit1 (S64.rowMajor (ix1 d))) = _
  rw [e, Cert.Tables.freq']

theorem hm_eq : (Cert.KernelIdeal.End.hm : S128x128.Idx → EReal) = hm (F := Ideal) := by
  funext i
  show Ideal.ofBits .f32 (Cert.KernelIdeal.lit2t (S128x128.rowMajor i).val) = Ideal.ofBits .f32 (lit2t (S128x128.rowMajor i).val)
  rw [Cert.Tables.mat]

variable {a0 : FVec Ideal S1x2048x4096 .f32} {a1 : IVec S1x2048 32} {a2 : FVec Ideal S4096x4096 .f32} {a3 a4 : FVec Ideal S1024x4096 .f32} {a5 : FVec Ideal S4096x4096 .f32}
  {x : Cert.KernelIdeal.S2048x4096.Idx → EReal}

/-- A position's word read as a signed number is the position. -/
theorem pos_int (i : Fin 2048) : (BitVec.ofNat 32 i.val).toInt = (i.val : ℤ) := by
  have h := i.isLt
  have n : (BitVec.ofNat 32 i.val).toNat = i.val := by rw [BitVec.toNat_ofNat]; exact Nat.mod_eq_of_lt (by omega)
  rw [BitVec.toInt_eq_toNat_of_lt (by rw [n]; omega), n]

theorem ang_half (hp : ∀ i : Fin 2048, a1 (ix2 0 i) = BitVec.ofNat 32 i.val) (f : FVec Ideal S64 .f32) (hf : ∀ d : Fin 64, f (ix1 d) = Ideal.ofBits .f32 (lit0 d))
    (i : Fin 2048) (d : Fin 128) : emb (F := Ideal) (half a1 f) (ix2 i d) = ang fr (ix2 i d) := by
  rw [emb_apply, half_apply, hp, pos_int, hf, Int.cast_natCast]
  exact congrArg (fun z : EReal => ((i.val : ℝ) : EReal) * z) (fr_apply d).symm

theorem ang_real (i : Fin 2048) (d : Fin 128) : ∃ r : ℝ, ang fr (ix2 i d) = (r : EReal) := by
  obtain ⟨r, hr⟩ := Cert.Tables.freq_real ⟨d.val % 64, by omega⟩
  refine ⟨(i.val : ℝ) * r, ?_⟩
  rw [EReal.coe_mul, ← hr, ← fr_apply]
  rfl

/-! ## The projections -/

/-- Query head `h` of group `g` among all. -/
def head (g : Fin 8) (h : Fin 4) : Fin 32 := ⟨g.val * 4 + h.val, by omega⟩

theorem proj_q (hx : ∀ i k, x (ix2 i k) = a0 (ix3 0 i k)) (g : Fin 8) (h : Fin 4) (i : Fin 2048) (d : Fin 128) :
    dot4 x a2 (ix2 i (col g h d)) = proj4 (F := Ideal) a0 a2 (ix3 i (head g h) d) := by
  rw [proj4_apply]
  refine Finset.sum_congr rfl fun k _ => congrArg₂ (fun p q : EReal => p * q) (hx i k) (congrArg a2 (ix2_eq ?_ rfl))
  show g.val * 512 + h.val * 128 + d.val = (g.val * 4 + h.val) * 128 + d.val
  omega

theorem proj_k (hx : ∀ i k, x (ix2 i k) = a0 (ix3 0 i k)) (g : Fin 8) (i : Fin 2048) (d : Fin 128) :
    dot1 x a3 (ix2 i (kcol g d)) = proj1 (F := Ideal) a0 a3 (ix3 i g d) := by
  rw [proj1_apply]
  exact Finset.sum_congr rfl fun k _ => congrArg₂ (fun p q : EReal => p * q) (hx i k) rfl

/-- A sum of products of reals is real. -/
theorem sum_real {n : ℕ} (f g : Fin n → EReal) (hf : ∀ k, ∃ r : ℝ, f k = (r : EReal)) (hg : ∀ k, ∃ r : ℝ, g k = (r : EReal)) : ∃ r : ℝ, ∑ k, f k * g k = (r : EReal) := by
  choose u hu using hf
  choose v hv using hg
  refine ⟨∑ k, u k * v k, ?_⟩
  rw [coe_sum]
  exact Finset.sum_congr rfl fun k _ => by rw [hu, hv, EReal.coe_mul]

theorem proj_q_real (h0 : ∀ i, ∃ r : ℝ, (a0 i : EReal) = (r : EReal)) (h2 : ∀ i, ∃ r : ℝ, (a2 i : EReal) = (r : EReal)) (i : Fin 2048) (h : Fin 32) (d : Fin 128) :
    ∃ r : ℝ, proj4 (F := Ideal) a0 a2 (ix3 i h d) = (r : EReal) := by
  rw [proj4_apply]
  exact sum_real _ _ (fun _ => h0 _) (fun _ => h2 _)

theorem proj_k_real (h0 : ∀ i, ∃ r : ℝ, (a0 i : EReal) = (r : EReal)) (h3 : ∀ i, ∃ r : ℝ, (a3 i : EReal) = (r : EReal)) (i : Fin 2048) (h : Fin 8) (d : Fin 128) :
    ∃ r : ℝ, proj1 (F := Ideal) a0 a3 (ix3 i h d) = (r : EReal) := by
  rw [proj1_apply]
  exact sum_real _ _ (fun _ => h0 _) (fun _ => h3 _)

/-! ## The rotations -/

/-- The half turned with its sign on the sine is the half turned with the sign on the element. -/
theorem turned (p : Prop) [Decidable p] (y s : EReal) : y * ((if p then (((-1 : ℝ)) : EReal) else ((1 : ℝ) : EReal)) * s) = (if p then -y else y) * s := by
  by_cases h : p
  · rw [if_pos h, if_pos h, EReal.coe_neg, EReal.coe_one, neg_mul, one_mul, mul_neg, neg_mul]
  · rw [if_neg h, if_neg h, EReal.coe_one, one_mul]

/-- The rotated keys are the reference's. -/
theorem keys (hx : ∀ i k, x (ix2 i k) = a0 (ix3 0 i k)) (hp : ∀ i : Fin 2048, a1 (ix2 0 i) = BitVec.ofNat 32 i.val) (g : Fin 8) (i : Fin 2048) (d : Fin 128) :
    ropeK (dot1 x a3) (cosT fr) (sinT fr sg) (ix2 i (kcol g d)) = ks (F := Ideal) a0 a1 a3 (ix3 i g d) := by
  have l : lane (kcol g d) = d := Fin.ext (by show (g.val * 128 + d.val) % 128 = d.val; omega)
  have s : swap (kcol g d) = kcol g (far d) :=
    Fin.ext (by show (g.val * 128 + d.val) / 128 * 128 + ((g.val * 128 + d.val) % 128 + 64) % 128 = g.val * 128 + (d.val + 64) % 128; omega)
  show dot1 x a3 (ix2 i (kcol g d)) * cosT fr (ix2 i (lane (kcol g d))) + dot1 x a3 (ix2 i (swap (kcol g d))) * sinT fr sg (ix2 i (lane (kcol g d))) = _
  rw [l, s, proj_k hx, proj_k hx]
  unfold ks
  rw [rope1_apply, ang_half hp _ frK_apply]
  show _ * Ideal.cos (ang fr (ix2 i d)) + _ * (sg (ix2 0 d) * Ideal.sin (ang fr (ix2 i d))) = _
  rw [sg_apply, turned]
  rfl

/-- The rotated keys are real. -/
theorem keys_real (hp : ∀ i : Fin 2048, a1 (ix2 0 i) = BitVec.ofNat 32 i.val) (h0 : ∀ i, ∃ r : ℝ, (a0 i : EReal) = (r : EReal)) (h3 : ∀ i, ∃ r : ℝ, (a3 i : EReal) = (r : EReal))
    (i : Fin 2048) (g : Fin 8) (d : Fin 128) : ∃ r : ℝ, ks (F := Ideal) a0 a1 a3 (ix3 i g d) = (r : EReal) := by
  unfold ks
  rw [rope1_apply, ang_half hp _ frK_apply]
  obtain ⟨t, ht⟩ := ang_real i d
  obtain ⟨u, hu⟩ := proj_k_real h0 h3 i g d
  obtain ⟨v, hv⟩ := proj_k_real h0 h3 i g ⟨(d.val + 64) % 128, by omega⟩
  rw [ht, hu, hv, Ideal.cos_coe, Ideal.sin_coe]
  by_cases h : d.val < 64
  · exact ⟨u * Real.cos t + -v * Real.sin t, by rw [if_pos h]; push_cast; rfl⟩
  · exact ⟨u * Real.cos t + v * Real.sin t, by rw [if_neg h]; push_cast; rfl⟩

/-- The rotated queries are real, and the kernel's are the reference's times the scale. -/
theorem queries (hx : ∀ i k, x (ix2 i k) = a0 (ix3 0 i k)) (hp : ∀ i : Fin 2048, a1 (ix2 0 i) = BitVec.ofNat 32 i.val)
    (h0 : ∀ i, ∃ r : ℝ, (a0 i : EReal) = (r : EReal)) (h2 : ∀ i, ∃ r : ℝ, (a2 i : EReal) = (r : EReal)) (g : Fin 8) (h : Fin 4) (i : Fin 2048) (d : Fin 128) :
    ∃ r : ℝ, Stages.qs (F := Ideal) a0 a1 a2 (ix3 i (head g h) d) = (r : EReal)
      ∧ ropeQ (dot4 x a2) (cosQ fr) (sinQ fr sg) (ix4 g h i d) = ((((Real.log 2)⁻¹ * (Real.sqrt 128)⁻¹) * r : ℝ) : EReal) := by
  obtain ⟨t, ht⟩ := ang_real i d
  obtain ⟨u, hu⟩ := proj_q_real h0 h2 i (head g h) d
  obtain ⟨v, hv⟩ := proj_q_real h0 h2 i (head g h) ⟨(d.val + 64) % 128, by omega⟩
  have e : ropeQ (dot4 x a2) (cosQ fr) (sinQ fr sg) (ix4 g h i d)
      = (u : EReal) * (Ideal.cos (ang fr (ix2 i d)) * Cert.KernelIdeal.V0.qs) + (v : EReal) * ((sg (ix2 0 d) * Ideal.sin (ang fr (ix2 i d))) * Cert.KernelIdeal.V0.qs) := by
    show dot4 x a2 (ix2 i (col g h d)) * _ + dot4 x a2 (ix2 i (col g h (far d))) * _ = _
    rw [proj_q hx, proj_q hx, hu]
    exact congrArg₂ (fun p q : EReal => p + q) rfl (congrArg (fun z : EReal => z * sinQ fr sg (ix2 i d)) hv)
  rw [e]
  unfold Stages.qs
  rw [rope4_apply, ang_half hp _ frQ_apply, ht, hu, hv, Ideal.cos_coe, Ideal.sin_coe, sg_apply]
  unfold Cert.KernelIdeal.V0.qs
  by_cases hd : d.val < 64
  · refine ⟨u * Real.cos t + -v * Real.sin t, by rw [if_pos hd]; push_cast; rfl, ?_⟩
    rw [if_pos hd]
    simp only [← EReal.coe_mul, ← EReal.coe_add]
    exact congrArg _ (by ring)
  · refine ⟨u * Real.cos t + v * Real.sin t, by rw [if_neg hd]; push_cast; rfl, ?_⟩
    rw [if_neg hd]
    simp only [← EReal.coe_mul, ← EReal.coe_add]
    exact congrArg _ (by ring)

/-! ## The scores -/

/-- The reference's product of a query and a key is real, the kernel's score that product in units of the scale. -/
theorem scores_real (hx : ∀ i k, x (ix2 i k) = a0 (ix3 0 i k)) (hp : ∀ i : Fin 2048, a1 (ix2 0 i) = BitVec.ofNat 32 i.val)
    (h0 : ∀ i, ∃ r : ℝ, (a0 i : EReal) = (r : EReal)) (h2 : ∀ i, ∃ r : ℝ, (a2 i : EReal) = (r : EReal)) (h3 : ∀ i, ∃ r : ℝ, (a3 i : EReal) = (r : EReal))
    (g : Fin 8) (h : Fin 4) (i c : Fin 2048) :
    ∃ r : ℝ, ∑ e : Fin 128, (Stages.qs (F := Ideal) a0 a1 a2 (ix3 i (head g h) e) * ks (F := Ideal) a0 a1 a3 (ix3 c g e) : EReal) = (r : EReal)
      ∧ score (ropeQ (dot4 x a2) (cosQ fr) (sinQ fr sg)) (ropeK (dot1 x a3) (cosT fr) (sinT fr sg)) g h i c = (((r / Real.sqrt 128) / Real.log 2 : ℝ) : EReal) := by
  choose q hq hq' using fun e => queries hx hp h0 h2 g h i e
  choose k hk using fun e => keys_real hp h0 h3 c g e
  refine ⟨∑ e, q e * k e, ?_, ?_⟩
  · rw [coe_sum]
    exact Finset.sum_congr rfl fun e _ => by rw [hq, hk, EReal.coe_mul]
  · have : (∑ e, q e * k e) / Real.sqrt 128 / Real.log 2 = ∑ e, (((Real.log 2)⁻¹ * (Real.sqrt 128)⁻¹) * q e) * k e := by
      simp only [mul_assoc, ← Finset.mul_sum]
      rw [div_eq_mul_inv, div_eq_mul_inv]
      ring
    rw [this, coe_sum]
    unfold score
    exact Finset.sum_congr rfl fun e _ => by rw [hq', keys hx hp, hk, ← EReal.coe_mul]

/-! ## The attention -/

theorem turn_apply (q : FVec Ideal S2048x32x128 .f32) (h : Fin 32) (i : Fin 2048) (e : Fin 128) :
    transpose S32x2048x128 [1, 0, 2] q Cert.ReferenceIdeal.Gen.transposes_S2048x32x128_S32x2048x128_1_0_2 (ix3 h i e) = q (ix3 i h e) := by
  pointwise

theorem masked_apply (q : FVec Ideal S2048x32x128 .f32) (k : FVec Ideal S2048x8x128 .f32) (g : Fin 8) (h : Fin 4) (i c : Fin 2048) :
    scores (F := Ideal) q k (ix3 (head g h) i c)
      = if c.val ≤ i.val then Ideal.div (∑ e : Fin 128, q (ix3 i (head g h) e) * k (ix3 c g e) : EReal) ((Real.sqrt 128 : ℝ) : EReal) else (⊥ : EReal) := by
  have hg : (⟨(head g h).val / 4, by omega⟩ : Fin 8) = g := Fin.ext (by show (g.val * 4 + h.val) / 4 = g.val; omega)
  unfold scores
  rw [msk_apply, sc_apply]
  refine congrArg (fun z : EReal => if c.val ≤ i.val then Ideal.div z ((Real.sqrt 128 : ℝ) : EReal) else (⊥ : EReal)) (Finset.sum_congr rfl fun e _ => ?_)
  rw [rep_apply, hg]
  exact congrArg (fun z : EReal => z * k (ix3 c g e)) (turn_apply q _ _ _)

/-- One row of the reference's weighted values is the kernel's. -/
theorem row (hx : ∀ i k, x (ix2 i k) = a0 (ix3 0 i k)) (hp : ∀ i : Fin 2048, a1 (ix2 0 i) = BitVec.ofNat 32 i.val)
    (h0 : ∀ i, ∃ r : ℝ, (a0 i : EReal) = (r : EReal)) (h2 : ∀ i, ∃ r : ℝ, (a2 i : EReal) = (r : EReal)) (h3 : ∀ i, ∃ r : ℝ, (a3 i : EReal) = (r : EReal))
    (g : Fin 8) (h : Fin 4) (i : Fin 2048) (d : Fin 128) :
    (∑ c : Fin 2048, wts (F := Ideal) (ex (scores (Stages.qs a0 a1 a2) (ks a0 a1 a3))) (ix3 (head g h) i c) * proj1 (F := Ideal) a0 a4 (ix3 c g d) : EReal)
      = attn (ropeQ (dot4 x a2) (cosQ fr) (sinQ fr sg)) (ropeK (dot1 x a3) (cosT fr) (sinT fr sg)) (dot1 x a4) g h i d := by
  choose r hr hr' using fun c => scores_real hx hp h0 h2 h3 g h i c
  have hs : ∀ c : Fin 2048, scores (F := Ideal) (Stages.qs a0 a1 a2) (ks a0 a1 a3) (ix3 (head g h) i c)
      = if c.val ≤ i.val then ((r c / Real.sqrt 128 : ℝ) : EReal) else (⊥ : EReal) := by
    intro c
    have h128 : Real.sqrt 128 ≠ 0 := (Real.sqrt_pos.mpr (by norm_num)).ne'
    rw [masked_apply, hr, Ideal.div_coe h128, ← EReal.coe_mul, mul_one_div]
  generalize scores (F := Ideal) (Stages.qs a0 a1 a2) (ks a0 a1 a3) = s at hs
  have hv : (fun c : Fin 2048 => dot1 x a4 (ix2 c (kcol g d))) = fun c => proj1 (F := Ideal) a0 a4 (ix3 c g d) := funext fun c => proj_k hx g c d
  unfold attn
  simp only [hr', hv, wts_apply, ex_apply, top_apply]
  exact Cert.Row.softmax (fun c => r c / Real.sqrt 128) (fun c : Fin 2048 => c.val ≤ i.val) _ i le_rfl (fun c => s (ix3 (head g h) i c)) hs

/-- The reference's weighted values are the kernel's attention. -/
theorem attention (hx : ∀ i k, x (ix2 i k) = a0 (ix3 0 i k)) (hp : ∀ i : Fin 2048, a1 (ix2 0 i) = BitVec.ofNat 32 i.val)
    (h0 : ∀ i, ∃ r : ℝ, (a0 i : EReal) = (r : EReal)) (h2 : ∀ i, ∃ r : ℝ, (a2 i : EReal) = (r : EReal)) (h3 : ∀ i, ∃ r : ℝ, (a3 i : EReal) = (r : EReal))
    (i : Fin 2048) (j : Fin 4096) :
    ctx (F := Ideal) (wts (ex (scores (Stages.qs a0 a1 a2) (ks a0 a1 a3)))) (rep (proj1 a0 a4)) (ix3 0 i j)
      = attnO (ropeQ (dot4 x a2) (cosQ fr) (sinQ fr sg)) (ropeK (dot1 x a3) (cosT fr) (sinT fr sg)) (dot1 x a4) (ix2 i j) := by
  have hj := j.isLt
  have hh : (⟨j.val / 128, by omega⟩ : Fin 32) = head ⟨j.val / 512, by omega⟩ ⟨j.val % 512 / 128, by omega⟩ :=
    Fin.ext (by show j.val / 128 = j.val / 512 * 4 + j.val % 512 / 128; omega)
  have hg : ∀ (g : Fin 8) (h : Fin 4), (⟨(head g h).val / 4, by omega⟩ : Fin 8) = g := fun g h => Fin.ext (by show (g.val * 4 + h.val) / 4 = g.val; omega)
  rw [ctx_apply, hh]
  refine Eq.trans (Finset.sum_congr rfl fun c _ => ?_) (row hx hp h0 h2 h3 ⟨j.val / 512, by omega⟩ ⟨j.val % 512 / 128, by omega⟩ i ⟨j.val % 128, by omega⟩)
  rw [rep_apply, hg]

/-! ## The results -/

/-- The first result. -/
theorem first (hx : ∀ i k, x (ix2 i k) = a0 (ix3 0 i k)) (hp : ∀ i : Fin 2048, a1 (ix2 0 i) = BitVec.ofNat 32 i.val)
    (h0 : ∀ i, ∃ r : ℝ, (a0 i : EReal) = (r : EReal)) (h2 : ∀ i, ∃ r : ℝ, (a2 i : EReal) = (r : EReal)) (h3 : ∀ i, ∃ r : ℝ, (a3 i : EReal) = (r : EReal))
    (i : Fin 2048) (j : Fin 4096) :
    prj (F := Ideal) (ctx (wts (ex (scores (Stages.qs a0 a1 a2) (ks a0 a1 a3)))) (rep (proj1 a0 a4))) a5 (ix3 0 i j)
      = dot4 (attnO (ropeQ (dot4 x a2) (cosQ fr) (sinQ fr sg)) (ropeK (dot1 x a3) (cosT fr) (sinT fr sg)) (dot1 x a4)) a5 (ix2 i j) := by
  rw [prj_apply]
  exact Finset.sum_congr rfl fun k _ => congrArg₂ (fun p q : EReal => p * q) (attention hx hp h0 h2 h3 i k) rfl

/-- The second result. -/
theorem second (hx : ∀ i k, x (ix2 i k) = a0 (ix3 0 i k)) (hp : ∀ i : Fin 2048, a1 (ix2 0 i) = BitVec.ofNat 32 i.val) (i : Fin 2048) (h : Fin 8) (d : Fin 128) :
    had (F := Ideal) (ks a0 a1 a3) (ix3 i h d)
      = mulH (ropeK (dot1 x a3) (cosT fr) (sinT fr sg)) Cert.KernelIdeal.End.hm (ix2 i ⟨h.val * 128 + d.val, by omega⟩) := by
  rw [had_apply, hm_eq]
  refine Finset.sum_congr rfl fun e _ => congrArg₂ (fun p q : EReal => p * q) ?_ (congrArg (hm (F := Ideal)) (ix2_eq rfl ?_))
  · refine (keys hx hp h i e).symm.trans (congrArg _ (ix2_eq rfl ?_))
    show h.val * 128 + e.val = (h.val * 128 + d.val) / 128 * 128 + e.val
    omega
  · show d.val = (h.val * 128 + d.val) % 128
    omega

end Cert.Equal

end
-- ==== Proof.lean ====
/- The claims of this certificate: the two programs' frames from the whole kernel's run, the reference's from its own run,
   and the two results of the kernel equal to the reference's. -/
module

public import proofs.«01_k».proof.Defs
public import proofs.«01_k».proof.Proof.Gen.Pre_prefill
public import proofs.«01_k».proof.Proof.Kernel.Whole
public import proofs.«01_k».proof.Proof.KernelIdeal.Whole
public import proofs.«01_k».proof.Proof.KernelIdeal.End
public import proofs.«01_k».proof.Proof.Ref.Stages
public import proofs.«01_k».proof.Proof.Pre
public import proofs.«01_k».proof.Proof.Equal
public import Idealize.ShloMosaic.Adequacy
public import Idealize.ShloMosaic.Init
public import Idealize.ShloMosaic.Lib.Quiescent
public import Idealize.ShloMosaic.Lib.Pointwise

@[expose] public section

set_option maxRecDepth 16384

noncomputable section

namespace Cert.Proof

open Idealize.ShloMosaic Idealize.ShloMosaic.TcCoe Idealize.SL.Sem

/-- The reference runs and leaves its arguments. -/
theorem reference_frame : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Two arrays of the first result's shape agree when their rows do. -/
theorem ext_first {A B : Cert.ReferenceIdeal.S1x2048x4096.Idx → EReal} (h : ∀ (i : Fin 2048) (j : Fin 4096), A (ix3 0 i j) = B (ix3 0 i j)) : A = B := by
  funext y
  have e : y = ix3 0 (y 1) (y 2) := by
    funext d
    match d with
    | 0 => exact Subsingleton.elim (α := Fin 1) _ _
    | 1 => rfl
    | 2 => rfl
  rw [e]
  exact h _ _

/-- Two arrays of the second result's shape agree when their heads do. -/
theorem ext_second {A B : Cert.ReferenceIdeal.S2048x8x128.Idx → EReal} (h : ∀ (i : Fin 2048) (j : Fin 8) (d : Fin 128), A (ix3 i j d) = B (ix3 i j d)) : A = B := by
  funext y
  have e : y = ix3 (y 0) (y 1) (y 2) := by
    funext d
    match d with
    | 0 => rfl
    | 1 => rfl
    | 2 => rfl
  rw [e]
  exact h _ _ _

/-- An array with its unit axis dropped, at an index. -/
theorem drop_apply (a : Cert.KernelIdeal.S1x2048x4096.Idx → EReal) (h : Cert.KernelIdeal.S1x2048x4096.ShapeCasts Cert.KernelIdeal.S2048x4096) (i : Fin 2048) (k : Fin 4096) :
    shapeCast Cert.KernelIdeal.S2048x4096 a h (ix2 i k) = a (ix3 0 i k) := by
  pointwise

section

variable (m : (ℓ : Loc Cert.KernelIdeal.nD Cert.KernelIdeal.τ Cert.KernelIdeal.sig) → Buf (Elt Ideal) ℓ) (c : Dev Cert.KernelIdeal.nD)

/-- The kernel's hidden states, row by row. -/
theorem hidden (i : Fin 2048) (k : Fin 4096) : Cert.KernelIdeal.End.X m c (ix2 i k)
    = (m ((c : Thread Cert.KernelIdeal.nD Cert.KernelIdeal.τ).loc Cert.KernelIdeal.main_arg0) : Cert.KernelIdeal.S1x2048x4096.Idx → EReal) (ix3 0 i k) := by
  exact drop_apply _ _ i k

variable {m c} {a0 : FVec Ideal Cert.ReferenceIdeal.S1x2048x4096 .f32} {a1 : IVec Cert.ReferenceIdeal.S1x2048 32} {a2 : FVec Ideal Cert.ReferenceIdeal.S4096x4096 .f32}
  {a3 a4 : FVec Ideal Cert.ReferenceIdeal.S1024x4096 .f32} {a5 : FVec Ideal Cert.ReferenceIdeal.S4096x4096 .f32}

open Cert.ReferenceIdeal.Stages in
/-- The reference's results are the kernel's, on the same arguments under the precondition. -/
theorem results (hpre : Pre_KernelIdeal_prefill m)
    (e0 : a0 = m ((c.tc : Thread Cert.KernelIdeal.nD Cert.KernelIdeal.τ).loc Cert.KernelIdeal.main_arg0))
    (e1 : a1 = m ((c.tc : Thread Cert.KernelIdeal.nD Cert.KernelIdeal.τ).loc Cert.KernelIdeal.main_arg1))
    (e2 : a2 = m ((c.tc : Thread Cert.KernelIdeal.nD Cert.KernelIdeal.τ).loc Cert.KernelIdeal.main_arg2))
    (e3 : a3 = m ((c.tc : Thread Cert.KernelIdeal.nD Cert.KernelIdeal.τ).loc Cert.KernelIdeal.main_arg3))
    (e4 : a4 = m ((c.tc : Thread Cert.KernelIdeal.nD Cert.KernelIdeal.τ).loc Cert.KernelIdeal.main_arg4))
    (e5 : a5 = m ((c.tc : Thread Cert.KernelIdeal.nD Cert.KernelIdeal.τ).loc Cert.KernelIdeal.main_arg5)) :
    prj (F := Ideal) (ctx (wts (ex (scores (qs a0 a1 a2) (ks a0 a1 a3)))) (rep (proj1 a0 a4))) a5 = Cert.KernelIdeal.Whole.W8 m c Cert.KernelIdeal.main_v7
      ∧ had (F := Ideal) (ks a0 a1 a3) = Cert.KernelIdeal.Whole.W8 m c Cert.KernelIdeal.main_v8 := by
  obtain ⟨hp, h0, h2, h3⟩ := Cert.Pre_prefill.parts (hpre c)
  have hx := hidden m c
  subst e0 e1 e2 e3 e4 e5
  have hq : ∀ g h i j, ∃ y : ℝ, Cert.KernelIdeal.V4.score (Cert.KernelIdeal.End.Q m c) (Cert.KernelIdeal.End.K m c) g h i j = (y : EReal) := fun g h i j => by
    obtain ⟨r, _, hr⟩ := Cert.Equal.scores_real hx hp h0 h2 h3 g h i j
    exact ⟨_, hr⟩
  constructor
  · exact ext_first fun i j => (Cert.Equal.first hx hp h0 h2 h3 i j).trans (Cert.KernelIdeal.End.res0 m c hq i j).symm
  · exact ext_second fun i h d => (Cert.Equal.second hx hp i h d).trans (Cert.KernelIdeal.End.res1 m c i h d).symm

end

/-- The kernel and the reference end with equal results. -/
theorem algebraic : algebraic_KernelIdeal_ReferenceIdeal_pre_prefill := by
  intro m ρ m' ρ' hpre hagree
  refine ⟨fun c => Cert.KernelIdeal.Whole.W8 m c Cert.KernelIdeal.main_v7, fun c => Cert.KernelIdeal.Whole.W8 m c Cert.KernelIdeal.main_v8, ?_, ?_⟩
  · refine (θ_run Cert.KernelIdeal.defs _ _).mono (fun r h c => ?_) (Cert.KernelIdeal.Whole.run_whole (F := Ideal) m ρ)
    have kept : ∀ b : Ref Cert.KernelIdeal.sig .tc, b.isScoped = false → Cert.KernelIdeal.Whole.Kept b →
        r.2.mem ((c.tc : Thread Cert.KernelIdeal.nD Cert.KernelIdeal.τ).loc b) = m ((c.tc : Thread Cert.KernelIdeal.nD Cert.KernelIdeal.τ).loc b) := fun b hb hk =>
      (h.1 c b hb).trans (Cert.KernelIdeal.Whole.W8_kept m c b hk)
    exact ⟨h.1 c _ rfl, h.1 c _ rfl, kept _ rfl (by decide), kept _ rfl (by decide), kept _ rfl (by decide), kept _ rfl (by decide), kept _ rfl (by decide), kept _ rfl (by decide)⟩
  · refine (θ_run Cert.ReferenceIdeal.defs _ _).mono (fun r h c => ?_) (Cert.ReferenceIdeal.Stages.run (F := Ideal) m' ρ')
    obtain ⟨e0, e1, e2, e3, e4, e5⟩ := hagree c
    have hr := results (c := c) hpre e0 e1 e2 e3 e4 e5
    exact ⟨(h c).1.trans hr.1, (h c).2.1.trans hr.2, (h c).2.2⟩

/-- The named constants at the ideal instance. -/
theorem preserves : preserves_Kernel_KernelIdeal :=
  ⟨IdealRules.named_const.statement Cert.KernelIdeal.κ "qscale" .f32 0x3E0293EE#32 _ rfl,
    IdealRules.named_const.statement Cert.KernelIdeal.κ "large" .f32 0x7F7FFFFF#32 ⊤ rfl⟩

theorem claim : Cert.Claim :=
  ⟨Cert.Kernel.Gen.facts, Cert.KernelIdeal.Gen.facts, Cert.ReferenceIdeal.Gen.facts, Cert.Pre_prefill.Gen.facts,
    fun m ρ _ => Cert.Kernel.Whole.frame m ρ, fun m ρ _ => Cert.KernelIdeal.Whole.frame m ρ, fun m ρ _ => Cert.KernelIdeal.Whole.frame m ρ,
    reference_frame, fun m ρ _ => reference_frame m ρ trivial, preserves, algebraic⟩

end Cert.Proof

end
